-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨4, ![4, 2048, 8, 64]⟩ ⟨4, ![4, 2048, 64, 64]⟩ 2 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨3, ![4, 256, 4096]⟩ ⟨3, ![4, 2048, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x8x64 : Shape := ⟨4, ![4, 2048, 8, 64]⟩
abbrev S512x4096 : Shape := ⟨2, ![512, 4096]⟩
abbrev S4x2048x512 : Shape := ⟨3, ![4, 2048, 512]⟩
abbrev S4x256x4096 : Shape := ⟨3, ![4, 256, 4096]⟩
abbrev S2x4x256x512 : Shape := ⟨4, ![2, 4, 256, 512]⟩
abbrev S2x4x256x2048 : Shape := ⟨4, ![2, 4, 256, 2048]⟩
abbrev S2 : Shape := ⟨1, ![2]⟩
abbrev S2x4 : Shape := ⟨2, ![2, 4]⟩
abbrev S_ : Shape := ⟨0, ![]⟩
abbrev S1 : Shape := ⟨1, ![1]⟩
abbrev S1x4x256x512 : Shape := ⟨4, ![1, 4, 256, 512]⟩
abbrev S4x256x512 : Shape := ⟨3, ![4, 256, 512]⟩
abbrev S1x1x256x512 : Shape := ⟨4, ![1, 1, 256, 512]⟩
abbrev S256x512 : Shape := ⟨2, ![256, 512]⟩
abbrev S512x512 : Shape := ⟨2, ![512, 512]⟩
abbrev S1x1 : Shape := ⟨2, ![1, 1]⟩
abbrev S1x256x512 : Shape := ⟨3, ![1, 256, 512]⟩

abbrev nBuf : Space → Nat
  | .hbm => 4
  | .vmem => 5
  | .smem => 0
  | _ => 0

abbrev bufTy : (tb : Table) → Fin (tcTables nBuf tb) → BufTy
  | .hbm, ⟨0, _⟩ => ⟨S4x2048x8x64, .f32⟩
  | .hbm, ⟨1, _⟩ => ⟨S512x4096, .f32⟩
  | .hbm, ⟨2, _⟩ => ⟨S4x2048x512, .f32⟩
  | .hbm, ⟨3, _⟩ => ⟨S4x256x4096, .f32⟩
  | .local _ .vmem, ⟨0, _⟩ => ⟨S512x4096, .f32⟩
  | .local _ .vmem, ⟨1, _⟩ => ⟨S4x256x4096, .f32⟩
  | .local _ .vmem, ⟨2, _⟩ => ⟨S2x4x256x512, .f32⟩
  | .local _ .vmem, ⟨3, _⟩ => ⟨S2x4x256x2048, .f32⟩
  | .local _ .vmem, ⟨4, _⟩ => ⟨S2x4x256x2048, .f32⟩
  | _, _ => ⟨S4x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => true
  | ⟨1, _⟩ => true
  | ⟨2, _⟩ => false
  | ⟨3, _⟩ => true
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 4 36 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 3 → Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_19 : BitVec 32 := 1#32
  let v30 : BitVec 32 := Scalar.subi v2 c1_i32_19
  let c8_i32_20 : BitVec 32 := 8#32
  let c0_i32_21 : BitVec 32 := 0#32
  let v31 : BitVec 1 := Scalar.cmpi .eq c8_i32_20 c0_i32_21
  let c1_i32_22 : BitVec 32 := 1#32
  let v32 : BitVec 32 := Scalar.select v31 c1_i32_22 c8_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c256_i32 : BitVec 32 := 256#32
  let v41 : BitVec 32 := Scalar.muli v40 c256_i32
  let c0_i32_32 : BitVec 32 := 0#32
  ![0, v41.toNat, 0]
def k0_off2 (d0 : Dev nD) : Fin 3 → Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v47 : BitVec 32 := Scalar.addi v2 c1_i32_33
  let c8_i32_34 : BitVec 32 := 8#32
  let c0_i32_35 : BitVec 32 := 0#32
  let v48 : BitVec 1 := Scalar.cmpi .eq c8_i32_34 c0_i32_35
  let c1_i32_36 : BitVec 32 := 1#32
  let v49 : BitVec 32 := Scalar.select v48 c1_i32_36 c8_i32_34
  let v50 : BitVec 32 := Scalar.remsi v47 v49
  let c0_i32_38 : BitVec 32 := 0#32
  let v52 : BitVec 1 := Scalar.cmpi .slt v50 c0_i32_38
  let c0_i32_39 : BitVec 32 := 0#32
  let v53 : BitVec 1 := Scalar.cmpi .slt v49 c0_i32_39
  let v54 : BitVec 1 := Scalar.xori v52 v53
  let c0_i32_37 : BitVec 32 := 0#32
  let v51 : BitVec 1 := Scalar.cmpi .ne v50 c0_i32_37
  let v55 : BitVec 1 := Scalar.andi v54 v51
  let v56 : BitVec 32 := Scalar.addi v50 v49
  let v57 : BitVec 32 := Scalar.select v55 v56 v50
  let c256_i32_40 : BitVec 32 := 256#32
  let v58 : BitVec 32 := Scalar.muli v57 c256_i32_40
  let c0_i32_47 : BitVec 32 := 0#32
  ![0, v58.toNat, 0]
def k0_dev3 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_107 : BitVec 32 := 1#32
  let v106 : BitVec 32 := Scalar.muli v24 c1_i32_107
  let v107 : BitVec 32 := Scalar.addi c0_i32_108 v106
  v107.toNat
def k0_dev4 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_164 : BitVec 32 := 1#32
  let v148 : BitVec 32 := Scalar.muli v13 c1_i32_164
  let v149 : BitVec 32 := Scalar.addi c0_i32_165 v148
  v149.toNat
def k0_dev5 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_221 : BitVec 32 := 1#32
  let v190 : BitVec 32 := Scalar.muli v24 c1_i32_221
  let v191 : BitVec 32 := Scalar.addi c0_i32_222 v190
  v191.toNat
def k0_dev6 (d0 : Dev nD) : Nat :=
  let c0_i32_278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_277 : BitVec 32 := 1#32
  let v232 : BitVec 32 := Scalar.muli v13 c1_i32_277
  let v233 : BitVec 32 := Scalar.addi c0_i32_278 v232
  v233.toNat
def k0_dev7 (d0 : Dev nD) : Nat :=
  let c0_i32_335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_334 : BitVec 32 := 1#32
  let v274 : BitVec 32 := Scalar.muli v24 c1_i32_334
  let v275 : BitVec 32 := Scalar.addi c0_i32_335 v274
  v275.toNat
def k0_dev8 (d0 : Dev nD) : Nat :=
  let c0_i32_391 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_390 : BitVec 32 := 1#32
  let v316 : BitVec 32 := Scalar.muli v13 c1_i32_390
  let v317 : BitVec 32 := Scalar.addi c0_i32_391 v316
  v317.toNat
def k0_dev9 (d0 : Dev nD) : Nat :=
  let c0_i32_447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_446 : BitVec 32 := 1#32
  let v358 : BitVec 32 := Scalar.muli v24 c1_i32_446
  let v359 : BitVec 32 := Scalar.addi c0_i32_447 v358
  v359.toNat
def k0_dev10 (d0 : Dev nD) : Nat :=
  let c0_i32_503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_502 : BitVec 32 := 1#32
  let v400 : BitVec 32 := Scalar.muli v13 c1_i32_502
  let v401 : BitVec 32 := Scalar.addi c0_i32_503 v400
  v401.toNat
def k0_off3 (d0 : Dev nD) (c0_i32_511 : BitVec 32) : Fin 3 → Nat :=
  let c0_i32_524 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_510 : BitVec 32 := 2#32
  let v410 : BitVec 32 := Scalar.subi v2 c2_i32_510
  let v411 : BitVec 32 := Scalar.subi v410 c0_i32_511
  let c8_i32_512 : BitVec 32 := 8#32
  let c0_i32_513 : BitVec 32 := 0#32
  let v412 : BitVec 1 := Scalar.cmpi .eq c8_i32_512 c0_i32_513
  let c1_i32_514 : BitVec 32 := 1#32
  let v413 : BitVec 32 := Scalar.select v412 c1_i32_514 c8_i32_512
  let v414 : BitVec 32 := Scalar.remsi v411 v413
  let c0_i32_516 : BitVec 32 := 0#32
  let v416 : BitVec 1 := Scalar.cmpi .slt v414 c0_i32_516
  let c0_i32_517 : BitVec 32 := 0#32
  let v417 : BitVec 1 := Scalar.cmpi .slt v413 c0_i32_517
  let v418 : BitVec 1 := Scalar.xori v416 v417
  let c0_i32_515 : BitVec 32 := 0#32
  let v415 : BitVec 1 := Scalar.cmpi .ne v414 c0_i32_515
  let v419 : BitVec 1 := Scalar.andi v418 v415
  let v420 : BitVec 32 := Scalar.addi v414 v413
  let v421 : BitVec 32 := Scalar.select v419 v420 v414
  let c256_i32_518 : BitVec 32 := 256#32
  let v422 : BitVec 32 := Scalar.muli v421 c256_i32_518
  let c0_i32_525 : BitVec 32 := 0#32
  ![0, v422.toNat, 0]
def k0_off4 (d0 : Dev nD) (c0_i32_527 : BitVec 32) : Fin 3 → Nat :=
  let c0_i32_540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_526 : BitVec 32 := 2#32
  let v428 : BitVec 32 := Scalar.addi v2 c2_i32_526
  let v429 : BitVec 32 := Scalar.addi v428 c0_i32_527
  let c8_i32_528 : BitVec 32 := 8#32
  let c0_i32_529 : BitVec 32 := 0#32
  let v430 : BitVec 1 := Scalar.cmpi .eq c8_i32_528 c0_i32_529
  let c1_i32_530 : BitVec 32 := 1#32
  let v431 : BitVec 32 := Scalar.select v430 c1_i32_530 c8_i32_528
  let v432 : BitVec 32 := Scalar.remsi v429 v431
  let c0_i32_532 : BitVec 32 := 0#32
  let v434 : BitVec 1 := Scalar.cmpi .slt v432 c0_i32_532
  let c0_i32_533 : BitVec 32 := 0#32
  let v435 : BitVec 1 := Scalar.cmpi .slt v431 c0_i32_533
  let v436 : BitVec 1 := Scalar.xori v434 v435
  let c0_i32_531 : BitVec 32 := 0#32
  let v433 : BitVec 1 := Scalar.cmpi .ne v432 c0_i32_531
  let v437 : BitVec 1 := Scalar.andi v436 v433
  let v438 : BitVec 32 := Scalar.addi v432 v431
  let v439 : BitVec 32 := Scalar.select v437 v438 v432
  let c256_i32_534 : BitVec 32 := 256#32
  let v440 : BitVec 32 := Scalar.muli v439 c256_i32_534
  let c0_i32_541 : BitVec 32 := 0#32
  ![0, v440.toNat, 0]
def k0_dev11 (d0 : Dev nD) : Nat :=
  let c0_i32_585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_584 : BitVec 32 := 1#32
  let v470 : BitVec 32 := Scalar.muli v13 c1_i32_584
  let v471 : BitVec 32 := Scalar.addi c0_i32_585 v470
  v471.toNat
def k0_dev12 (d0 : Dev nD) : Nat :=
  let c0_i32_655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_654 : BitVec 32 := 1#32
  let v516 : BitVec 32 := Scalar.muli v24 c1_i32_654
  let v517 : BitVec 32 := Scalar.addi c0_i32_655 v516
  v517.toNat
def k0_dev13 (d0 : Dev nD) : Nat :=
  let c0_i32_691 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_690 : BitVec 32 := 1#32
  let v540 : BitVec 32 := Scalar.muli v24 c1_i32_690
  let v541 : BitVec 32 := Scalar.addi c0_i32_691 v540
  v541.toNat
def k0_dev14 (d0 : Dev nD) : Nat :=
  let c0_i32_761 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_760 : BitVec 32 := 1#32
  let v586 : BitVec 32 := Scalar.muli v13 c1_i32_760
  let v587 : BitVec 32 := Scalar.addi c0_i32_761 v586
  v587.toNat
def k0_dev15 (d0 : Dev nD) : Nat :=
  let c0_i32_797 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_796 : BitVec 32 := 1#32
  let v610 : BitVec 32 := Scalar.muli v13 c1_i32_796
  let v611 : BitVec 32 := Scalar.addi c0_i32_797 v610
  v611.toNat
def k0_dev16 (d0 : Dev nD) : Nat :=
  let c0_i32_867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_866 : BitVec 32 := 1#32
  let v656 : BitVec 32 := Scalar.muli v24 c1_i32_866
  let v657 : BitVec 32 := Scalar.addi c0_i32_867 v656
  v657.toNat
def k0_dev17 (d0 : Dev nD) : Nat :=
  let c0_i32_903 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_902 : BitVec 32 := 1#32
  let v680 : BitVec 32 := Scalar.muli v24 c1_i32_902
  let v681 : BitVec 32 := Scalar.addi c0_i32_903 v680
  v681.toNat
def k0_dev18 (d0 : Dev nD) : Nat :=
  let c0_i32_973 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_972 : BitVec 32 := 1#32
  let v726 : BitVec 32 := Scalar.muli v13 c1_i32_972
  let v727 : BitVec 32 := Scalar.addi c0_i32_973 v726
  v727.toNat
def k0_dev19 (d0 : Dev nD) : Nat :=
  let c0_i32_1009 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1008 : BitVec 32 := 1#32
  let v750 : BitVec 32 := Scalar.muli v13 c1_i32_1008
  let v751 : BitVec 32 := Scalar.addi c0_i32_1009 v750
  v751.toNat
def k0_dev20 (d0 : Dev nD) : Nat :=
  let c0_i32_1079 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1078 : BitVec 32 := 1#32
  let v796 : BitVec 32 := Scalar.muli v24 c1_i32_1078
  let v797 : BitVec 32 := Scalar.addi c0_i32_1079 v796
  v797.toNat
def k0_dev21 (d0 : Dev nD) : Nat :=
  let c0_i32_1115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1114 : BitVec 32 := 1#32
  let v820 : BitVec 32 := Scalar.muli v24 c1_i32_1114
  let v821 : BitVec 32 := Scalar.addi c0_i32_1115 v820
  v821.toNat
def k0_dev22 (d0 : Dev nD) : Nat :=
  let c0_i32_1185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1184 : BitVec 32 := 1#32
  let v866 : BitVec 32 := Scalar.muli v13 c1_i32_1184
  let v867 : BitVec 32 := Scalar.addi c0_i32_1185 v866
  v867.toNat
def k0_dev23 (d0 : Dev nD) : Nat :=
  let c0_i32_1221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1220 : BitVec 32 := 1#32
  let v890 : BitVec 32 := Scalar.muli v13 c1_i32_1220
  let v891 : BitVec 32 := Scalar.addi c0_i32_1221 v890
  v891.toNat
def k0_dev24 (d0 : Dev nD) : Nat :=
  let c0_i32_1291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1290 : BitVec 32 := 1#32
  let v936 : BitVec 32 := Scalar.muli v24 c1_i32_1290
  let v937 : BitVec 32 := Scalar.addi c0_i32_1291 v936
  v937.toNat
def k0_dev25 (d0 : Dev nD) : Nat :=
  let c0_i32_1327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1326 : BitVec 32 := 1#32
  let v960 : BitVec 32 := Scalar.muli v24 c1_i32_1326
  let v961 : BitVec 32 := Scalar.addi c0_i32_1327 v960
  v961.toNat
def k0_dev26 (d0 : Dev nD) : Nat :=
  let c0_i32_1397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1396 : BitVec 32 := 1#32
  let v1006 : BitVec 32 := Scalar.muli v13 c1_i32_1396
  let v1007 : BitVec 32 := Scalar.addi c0_i32_1397 v1006
  v1007.toNat
def k0_dev27 (d0 : Dev nD) : Nat :=
  let c0_i32_1479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1478 : BitVec 32 := 1#32
  let v1076 : BitVec 32 := Scalar.muli v13 c1_i32_1478
  let v1077 : BitVec 32 := Scalar.addi c0_i32_1479 v1076
  v1077.toNat
def k0_dev28 (d0 : Dev nD) : Nat :=
  let c0_i32_1549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1548 : BitVec 32 := 1#32
  let v1122 : BitVec 32 := Scalar.muli v24 c1_i32_1548
  let v1123 : BitVec 32 := Scalar.addi c0_i32_1549 v1122
  v1123.toNat
def k0_dev29 (d0 : Dev nD) : Nat :=
  let c0_i32_1585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1584 : BitVec 32 := 1#32
  let v1146 : BitVec 32 := Scalar.muli v24 c1_i32_1584
  let v1147 : BitVec 32 := Scalar.addi c0_i32_1585 v1146
  v1147.toNat
def k0_dev30 (d0 : Dev nD) : Nat :=
  let c0_i32_1655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1654 : BitVec 32 := 1#32
  let v1192 : BitVec 32 := Scalar.muli v13 c1_i32_1654
  let v1193 : BitVec 32 := Scalar.addi c0_i32_1655 v1192
  v1193.toNat
def k0_dev31 (d0 : Dev nD) : Nat :=
  let c0_i32_1691 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1690 : BitVec 32 := 1#32
  let v1216 : BitVec 32 := Scalar.muli v13 c1_i32_1690
  let v1217 : BitVec 32 := Scalar.addi c0_i32_1691 v1216
  v1217.toNat
def k0_dev32 (d0 : Dev nD) : Nat :=
  let c0_i32_1761 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1760 : BitVec 32 := 1#32
  let v1262 : BitVec 32 := Scalar.muli v24 c1_i32_1760
  let v1263 : BitVec 32 := Scalar.addi c0_i32_1761 v1262
  v1263.toNat
def k0_dev33 (d0 : Dev nD) : Nat :=
  let c0_i32_1797 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1796 : BitVec 32 := 1#32
  let v1286 : BitVec 32 := Scalar.muli v24 c1_i32_1796
  let v1287 : BitVec 32 := Scalar.addi c0_i32_1797 v1286
  v1287.toNat
def k0_dev34 (d0 : Dev nD) : Nat :=
  let c0_i32_1867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1866 : BitVec 32 := 1#32
  let v1332 : BitVec 32 := Scalar.muli v13 c1_i32_1866
  let v1333 : BitVec 32 := Scalar.addi c0_i32_1867 v1332
  v1333.toNat
def k0_dev35 (d0 : Dev nD) : Nat :=
  let c0_i32_1903 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1902 : BitVec 32 := 1#32
  let v1356 : BitVec 32 := Scalar.muli v13 c1_i32_1902
  let v1357 : BitVec 32 := Scalar.addi c0_i32_1903 v1356
  v1357.toNat
def k0_dev36 (d0 : Dev nD) : Nat :=
  let c0_i32_1973 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1972 : BitVec 32 := 1#32
  let v1402 : BitVec 32 := Scalar.muli v24 c1_i32_1972
  let v1403 : BitVec 32 := Scalar.addi c0_i32_1973 v1402
  v1403.toNat
def k0_dev37 (d0 : Dev nD) : Nat :=
  let c0_i32_2009 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2008 : BitVec 32 := 1#32
  let v1426 : BitVec 32 := Scalar.muli v24 c1_i32_2008
  let v1427 : BitVec 32 := Scalar.addi c0_i32_2009 v1426
  v1427.toNat
def k0_dev38 (d0 : Dev nD) : Nat :=
  let c0_i32_2079 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2078 : BitVec 32 := 1#32
  let v1472 : BitVec 32 := Scalar.muli v13 c1_i32_2078
  let v1473 : BitVec 32 := Scalar.addi c0_i32_2079 v1472
  v1473.toNat
def k0_dev39 (d0 : Dev nD) : Nat :=
  let c0_i32_2115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2114 : BitVec 32 := 1#32
  let v1496 : BitVec 32 := Scalar.muli v13 c1_i32_2114
  let v1497 : BitVec 32 := Scalar.addi c0_i32_2115 v1496
  v1497.toNat
def k0_dev40 (d0 : Dev nD) : Nat :=
  let c0_i32_2185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2184 : BitVec 32 := 1#32
  let v1542 : BitVec 32 := Scalar.muli v24 c1_i32_2184
  let v1543 : BitVec 32 := Scalar.addi c0_i32_2185 v1542
  v1543.toNat
def k0_dev41 (d0 : Dev nD) : Nat :=
  let c0_i32_2221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2220 : BitVec 32 := 1#32
  let v1566 : BitVec 32 := Scalar.muli v24 c1_i32_2220
  let v1567 : BitVec 32 := Scalar.addi c0_i32_2221 v1566
  v1567.toNat
def k0_dev42 (d0 : Dev nD) : Nat :=
  let c0_i32_2291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2290 : BitVec 32 := 1#32
  let v1612 : BitVec 32 := Scalar.muli v13 c1_i32_2290
  let v1613 : BitVec 32 := Scalar.addi c0_i32_2291 v1612
  v1613.toNat
def k0_dev43 (d0 : Dev nD) : Nat :=
  let c0_i32_2373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2372 : BitVec 32 := 1#32
  let v1682 : BitVec 32 := Scalar.muli v13 c1_i32_2372
  let v1683 : BitVec 32 := Scalar.addi c0_i32_2373 v1682
  v1683.toNat
def k0_dev44 (d0 : Dev nD) : Nat :=
  let c0_i32_2443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2442 : BitVec 32 := 1#32
  let v1728 : BitVec 32 := Scalar.muli v24 c1_i32_2442
  let v1729 : BitVec 32 := Scalar.addi c0_i32_2443 v1728
  v1729.toNat
def k0_dev45 (d0 : Dev nD) : Nat :=
  let c0_i32_2479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2478 : BitVec 32 := 1#32
  let v1752 : BitVec 32 := Scalar.muli v24 c1_i32_2478
  let v1753 : BitVec 32 := Scalar.addi c0_i32_2479 v1752
  v1753.toNat
def k0_dev46 (d0 : Dev nD) : Nat :=
  let c0_i32_2549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2548 : BitVec 32 := 1#32
  let v1798 : BitVec 32 := Scalar.muli v13 c1_i32_2548
  let v1799 : BitVec 32 := Scalar.addi c0_i32_2549 v1798
  v1799.toNat
def k0_dev47 (d0 : Dev nD) : Nat :=
  let c0_i32_2585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2584 : BitVec 32 := 1#32
  let v1822 : BitVec 32 := Scalar.muli v13 c1_i32_2584
  let v1823 : BitVec 32 := Scalar.addi c0_i32_2585 v1822
  v1823.toNat
def k0_dev48 (d0 : Dev nD) : Nat :=
  let c0_i32_2655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2654 : BitVec 32 := 1#32
  let v1868 : BitVec 32 := Scalar.muli v24 c1_i32_2654
  let v1869 : BitVec 32 := Scalar.addi c0_i32_2655 v1868
  v1869.toNat
def k0_dev49 (d0 : Dev nD) : Nat :=
  let c0_i32_2691 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2690 : BitVec 32 := 1#32
  let v1892 : BitVec 32 := Scalar.muli v24 c1_i32_2690
  let v1893 : BitVec 32 := Scalar.addi c0_i32_2691 v1892
  v1893.toNat
def k0_dev50 (d0 : Dev nD) : Nat :=
  let c0_i32_2761 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2760 : BitVec 32 := 1#32
  let v1938 : BitVec 32 := Scalar.muli v13 c1_i32_2760
  let v1939 : BitVec 32 := Scalar.addi c0_i32_2761 v1938
  v1939.toNat
def k0_dev51 (d0 : Dev nD) : Nat :=
  let c0_i32_2797 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2796 : BitVec 32 := 1#32
  let v1962 : BitVec 32 := Scalar.muli v13 c1_i32_2796
  let v1963 : BitVec 32 := Scalar.addi c0_i32_2797 v1962
  v1963.toNat
def k0_dev52 (d0 : Dev nD) : Nat :=
  let c0_i32_2867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2866 : BitVec 32 := 1#32
  let v2008 : BitVec 32 := Scalar.muli v24 c1_i32_2866
  let v2009 : BitVec 32 := Scalar.addi c0_i32_2867 v2008
  v2009.toNat
def k0_dev53 (d0 : Dev nD) : Nat :=
  let c0_i32_2903 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2902 : BitVec 32 := 1#32
  let v2032 : BitVec 32 := Scalar.muli v24 c1_i32_2902
  let v2033 : BitVec 32 := Scalar.addi c0_i32_2903 v2032
  v2033.toNat
def k0_dev54 (d0 : Dev nD) : Nat :=
  let c0_i32_2973 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2972 : BitVec 32 := 1#32
  let v2078 : BitVec 32 := Scalar.muli v13 c1_i32_2972
  let v2079 : BitVec 32 := Scalar.addi c0_i32_2973 v2078
  v2079.toNat
def k0_dev55 (d0 : Dev nD) : Nat :=
  let c0_i32_3009 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3008 : BitVec 32 := 1#32
  let v2102 : BitVec 32 := Scalar.muli v13 c1_i32_3008
  let v2103 : BitVec 32 := Scalar.addi c0_i32_3009 v2102
  v2103.toNat
def k0_dev56 (d0 : Dev nD) : Nat :=
  let c0_i32_3079 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3078 : BitVec 32 := 1#32
  let v2148 : BitVec 32 := Scalar.muli v24 c1_i32_3078
  let v2149 : BitVec 32 := Scalar.addi c0_i32_3079 v2148
  v2149.toNat
def k0_dev57 (d0 : Dev nD) : Nat :=
  let c0_i32_3115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3114 : BitVec 32 := 1#32
  let v2172 : BitVec 32 := Scalar.muli v24 c1_i32_3114
  let v2173 : BitVec 32 := Scalar.addi c0_i32_3115 v2172
  v2173.toNat
def k0_dev58 (d0 : Dev nD) : Nat :=
  let c0_i32_3185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3184 : BitVec 32 := 1#32
  let v2218 : BitVec 32 := Scalar.muli v13 c1_i32_3184
  let v2219 : BitVec 32 := Scalar.addi c0_i32_3185 v2218
  v2219.toNat
def k0_dev59 (d0 : Dev nD) : Nat :=
  let c0_i32_3267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3266 : BitVec 32 := 1#32
  let v2288 : BitVec 32 := Scalar.muli v13 c1_i32_3266
  let v2289 : BitVec 32 := Scalar.addi c0_i32_3267 v2288
  v2289.toNat
def k0_dev60 (d0 : Dev nD) : Nat :=
  let c0_i32_3337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3336 : BitVec 32 := 1#32
  let v2334 : BitVec 32 := Scalar.muli v24 c1_i32_3336
  let v2335 : BitVec 32 := Scalar.addi c0_i32_3337 v2334
  v2335.toNat
def k0_dev61 (d0 : Dev nD) : Nat :=
  let c0_i32_3373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3372 : BitVec 32 := 1#32
  let v2358 : BitVec 32 := Scalar.muli v24 c1_i32_3372
  let v2359 : BitVec 32 := Scalar.addi c0_i32_3373 v2358
  v2359.toNat
def k0_dev62 (d0 : Dev nD) : Nat :=
  let c0_i32_3443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3442 : BitVec 32 := 1#32
  let v2404 : BitVec 32 := Scalar.muli v13 c1_i32_3442
  let v2405 : BitVec 32 := Scalar.addi c0_i32_3443 v2404
  v2405.toNat
def k0_dev63 (d0 : Dev nD) : Nat :=
  let c0_i32_3479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3478 : BitVec 32 := 1#32
  let v2428 : BitVec 32 := Scalar.muli v13 c1_i32_3478
  let v2429 : BitVec 32 := Scalar.addi c0_i32_3479 v2428
  v2429.toNat
def k0_dev64 (d0 : Dev nD) : Nat :=
  let c0_i32_3549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3548 : BitVec 32 := 1#32
  let v2474 : BitVec 32 := Scalar.muli v24 c1_i32_3548
  let v2475 : BitVec 32 := Scalar.addi c0_i32_3549 v2474
  v2475.toNat
def k0_dev65 (d0 : Dev nD) : Nat :=
  let c0_i32_3585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3584 : BitVec 32 := 1#32
  let v2498 : BitVec 32 := Scalar.muli v24 c1_i32_3584
  let v2499 : BitVec 32 := Scalar.addi c0_i32_3585 v2498
  v2499.toNat
def k0_dev66 (d0 : Dev nD) : Nat :=
  let c0_i32_3655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3654 : BitVec 32 := 1#32
  let v2544 : BitVec 32 := Scalar.muli v13 c1_i32_3654
  let v2545 : BitVec 32 := Scalar.addi c0_i32_3655 v2544
  v2545.toNat
def k0_dev67 (d0 : Dev nD) : Nat :=
  let c0_i32_3691 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3690 : BitVec 32 := 1#32
  let v2568 : BitVec 32 := Scalar.muli v13 c1_i32_3690
  let v2569 : BitVec 32 := Scalar.addi c0_i32_3691 v2568
  v2569.toNat
def k0_dev68 (d0 : Dev nD) : Nat :=
  let c0_i32_3761 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3760 : BitVec 32 := 1#32
  let v2614 : BitVec 32 := Scalar.muli v24 c1_i32_3760
  let v2615 : BitVec 32 := Scalar.addi c0_i32_3761 v2614
  v2615.toNat
def k0_dev69 (d0 : Dev nD) : Nat :=
  let c0_i32_3797 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3796 : BitVec 32 := 1#32
  let v2638 : BitVec 32 := Scalar.muli v24 c1_i32_3796
  let v2639 : BitVec 32 := Scalar.addi c0_i32_3797 v2638
  v2639.toNat
def k0_dev70 (d0 : Dev nD) : Nat :=
  let c0_i32_3867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3866 : BitVec 32 := 1#32
  let v2684 : BitVec 32 := Scalar.muli v13 c1_i32_3866
  let v2685 : BitVec 32 := Scalar.addi c0_i32_3867 v2684
  v2685.toNat
def k0_dev71 (d0 : Dev nD) : Nat :=
  let c0_i32_3903 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3902 : BitVec 32 := 1#32
  let v2708 : BitVec 32 := Scalar.muli v13 c1_i32_3902
  let v2709 : BitVec 32 := Scalar.addi c0_i32_3903 v2708
  v2709.toNat
def k0_dev72 (d0 : Dev nD) : Nat :=
  let c0_i32_3973 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3972 : BitVec 32 := 1#32
  let v2754 : BitVec 32 := Scalar.muli v24 c1_i32_3972
  let v2755 : BitVec 32 := Scalar.addi c0_i32_3973 v2754
  v2755.toNat
def k0_dev73 (d0 : Dev nD) : Nat :=
  let c0_i32_4009 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4008 : BitVec 32 := 1#32
  let v2778 : BitVec 32 := Scalar.muli v24 c1_i32_4008
  let v2779 : BitVec 32 := Scalar.addi c0_i32_4009 v2778
  v2779.toNat
def k0_dev74 (d0 : Dev nD) : Nat :=
  let c0_i32_4079 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4078 : BitVec 32 := 1#32
  let v2824 : BitVec 32 := Scalar.muli v13 c1_i32_4078
  let v2825 : BitVec 32 := Scalar.addi c0_i32_4079 v2824
  v2825.toNat
def k0_dev75 (d0 : Dev nD) : Nat :=
  let c0_i32_4160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4159 : BitVec 32 := 1#32
  let v2894 : BitVec 32 := Scalar.muli v13 c1_i32_4159
  let v2895 : BitVec 32 := Scalar.addi c0_i32_4160 v2894
  v2895.toNat
def k0_dev76 (d0 : Dev nD) : Nat :=
  let c0_i32_4230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4229 : BitVec 32 := 1#32
  let v2940 : BitVec 32 := Scalar.muli v24 c1_i32_4229
  let v2941 : BitVec 32 := Scalar.addi c0_i32_4230 v2940
  v2941.toNat
def k0_dev77 (d0 : Dev nD) : Nat :=
  let c0_i32_4266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4265 : BitVec 32 := 1#32
  let v2964 : BitVec 32 := Scalar.muli v24 c1_i32_4265
  let v2965 : BitVec 32 := Scalar.addi c0_i32_4266 v2964
  v2965.toNat
def k0_dev78 (d0 : Dev nD) : Nat :=
  let c0_i32_4336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4335 : BitVec 32 := 1#32
  let v3010 : BitVec 32 := Scalar.muli v13 c1_i32_4335
  let v3011 : BitVec 32 := Scalar.addi c0_i32_4336 v3010
  v3011.toNat
def k0_dev79 (d0 : Dev nD) : Nat :=
  let c0_i32_4372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4371 : BitVec 32 := 1#32
  let v3034 : BitVec 32 := Scalar.muli v13 c1_i32_4371
  let v3035 : BitVec 32 := Scalar.addi c0_i32_4372 v3034
  v3035.toNat
def k0_dev80 (d0 : Dev nD) : Nat :=
  let c0_i32_4442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4441 : BitVec 32 := 1#32
  let v3080 : BitVec 32 := Scalar.muli v24 c1_i32_4441
  let v3081 : BitVec 32 := Scalar.addi c0_i32_4442 v3080
  v3081.toNat
def k0_dev81 (d0 : Dev nD) : Nat :=
  let c0_i32_4478 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4477 : BitVec 32 := 1#32
  let v3104 : BitVec 32 := Scalar.muli v24 c1_i32_4477
  let v3105 : BitVec 32 := Scalar.addi c0_i32_4478 v3104
  v3105.toNat
def k0_dev82 (d0 : Dev nD) : Nat :=
  let c0_i32_4548 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4547 : BitVec 32 := 1#32
  let v3150 : BitVec 32 := Scalar.muli v13 c1_i32_4547
  let v3151 : BitVec 32 := Scalar.addi c0_i32_4548 v3150
  v3151.toNat
def k0_dev83 (d0 : Dev nD) : Nat :=
  let c0_i32_4584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4583 : BitVec 32 := 1#32
  let v3174 : BitVec 32 := Scalar.muli v13 c1_i32_4583
  let v3175 : BitVec 32 := Scalar.addi c0_i32_4584 v3174
  v3175.toNat
def k0_dev84 (d0 : Dev nD) : Nat :=
  let c0_i32_4654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4653 : BitVec 32 := 1#32
  let v3220 : BitVec 32 := Scalar.muli v24 c1_i32_4653
  let v3221 : BitVec 32 := Scalar.addi c0_i32_4654 v3220
  v3221.toNat
def k0_dev85 (d0 : Dev nD) : Nat :=
  let c0_i32_4690 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4689 : BitVec 32 := 1#32
  let v3244 : BitVec 32 := Scalar.muli v24 c1_i32_4689
  let v3245 : BitVec 32 := Scalar.addi c0_i32_4690 v3244
  v3245.toNat
def k0_dev86 (d0 : Dev nD) : Nat :=
  let c0_i32_4760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4759 : BitVec 32 := 1#32
  let v3290 : BitVec 32 := Scalar.muli v13 c1_i32_4759
  let v3291 : BitVec 32 := Scalar.addi c0_i32_4760 v3290
  v3291.toNat
def k0_dev87 (d0 : Dev nD) : Nat :=
  let c0_i32_4796 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4795 : BitVec 32 := 1#32
  let v3314 : BitVec 32 := Scalar.muli v13 c1_i32_4795
  let v3315 : BitVec 32 := Scalar.addi c0_i32_4796 v3314
  v3315.toNat
def k0_dev88 (d0 : Dev nD) : Nat :=
  let c0_i32_4866 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4865 : BitVec 32 := 1#32
  let v3360 : BitVec 32 := Scalar.muli v24 c1_i32_4865
  let v3361 : BitVec 32 := Scalar.addi c0_i32_4866 v3360
  v3361.toNat
def k0_dev89 (d0 : Dev nD) : Nat :=
  let c0_i32_4902 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4901 : BitVec 32 := 1#32
  let v3384 : BitVec 32 := Scalar.muli v24 c1_i32_4901
  let v3385 : BitVec 32 := Scalar.addi c0_i32_4902 v3384
  v3385.toNat
def k0_dev90 (d0 : Dev nD) : Nat :=
  let c0_i32_4972 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4971 : BitVec 32 := 1#32
  let v3430 : BitVec 32 := Scalar.muli v13 c1_i32_4971
  let v3431 : BitVec 32 := Scalar.addi c0_i32_4972 v3430
  v3431.toNat
def k0_dev91 (d0 : Dev nD) : Nat :=
  let c0_i32_5053 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5052 : BitVec 32 := 1#32
  let v3500 : BitVec 32 := Scalar.muli v13 c1_i32_5052
  let v3501 : BitVec 32 := Scalar.addi c0_i32_5053 v3500
  v3501.toNat
def k0_dev92 (d0 : Dev nD) : Nat :=
  let c0_i32_5123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5122 : BitVec 32 := 1#32
  let v3546 : BitVec 32 := Scalar.muli v24 c1_i32_5122
  let v3547 : BitVec 32 := Scalar.addi c0_i32_5123 v3546
  v3547.toNat
def k0_dev93 (d0 : Dev nD) : Nat :=
  let c0_i32_5159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5158 : BitVec 32 := 1#32
  let v3570 : BitVec 32 := Scalar.muli v24 c1_i32_5158
  let v3571 : BitVec 32 := Scalar.addi c0_i32_5159 v3570
  v3571.toNat
def k0_dev94 (d0 : Dev nD) : Nat :=
  let c0_i32_5229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5228 : BitVec 32 := 1#32
  let v3616 : BitVec 32 := Scalar.muli v13 c1_i32_5228
  let v3617 : BitVec 32 := Scalar.addi c0_i32_5229 v3616
  v3617.toNat
def k0_dev95 (d0 : Dev nD) : Nat :=
  let c0_i32_5265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5264 : BitVec 32 := 1#32
  let v3640 : BitVec 32 := Scalar.muli v13 c1_i32_5264
  let v3641 : BitVec 32 := Scalar.addi c0_i32_5265 v3640
  v3641.toNat
def k0_dev96 (d0 : Dev nD) : Nat :=
  let c0_i32_5335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5334 : BitVec 32 := 1#32
  let v3686 : BitVec 32 := Scalar.muli v24 c1_i32_5334
  let v3687 : BitVec 32 := Scalar.addi c0_i32_5335 v3686
  v3687.toNat
def k0_dev97 (d0 : Dev nD) : Nat :=
  let c0_i32_5371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5370 : BitVec 32 := 1#32
  let v3710 : BitVec 32 := Scalar.muli v24 c1_i32_5370
  let v3711 : BitVec 32 := Scalar.addi c0_i32_5371 v3710
  v3711.toNat
def k0_dev98 (d0 : Dev nD) : Nat :=
  let c0_i32_5441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5440 : BitVec 32 := 1#32
  let v3756 : BitVec 32 := Scalar.muli v13 c1_i32_5440
  let v3757 : BitVec 32 := Scalar.addi c0_i32_5441 v3756
  v3757.toNat
def k0_dev99 (d0 : Dev nD) : Nat :=
  let c0_i32_5477 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5476 : BitVec 32 := 1#32
  let v3780 : BitVec 32 := Scalar.muli v13 c1_i32_5476
  let v3781 : BitVec 32 := Scalar.addi c0_i32_5477 v3780
  v3781.toNat
def k0_dev100 (d0 : Dev nD) : Nat :=
  let c0_i32_5547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5546 : BitVec 32 := 1#32
  let v3826 : BitVec 32 := Scalar.muli v24 c1_i32_5546
  let v3827 : BitVec 32 := Scalar.addi c0_i32_5547 v3826
  v3827.toNat
def k0_dev101 (d0 : Dev nD) : Nat :=
  let c0_i32_5583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5582 : BitVec 32 := 1#32
  let v3850 : BitVec 32 := Scalar.muli v24 c1_i32_5582
  let v3851 : BitVec 32 := Scalar.addi c0_i32_5583 v3850
  v3851.toNat
def k0_dev102 (d0 : Dev nD) : Nat :=
  let c0_i32_5653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5652 : BitVec 32 := 1#32
  let v3896 : BitVec 32 := Scalar.muli v13 c1_i32_5652
  let v3897 : BitVec 32 := Scalar.addi c0_i32_5653 v3896
  v3897.toNat
def k0_dev103 (d0 : Dev nD) : Nat :=
  let c0_i32_5689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5688 : BitVec 32 := 1#32
  let v3920 : BitVec 32 := Scalar.muli v13 c1_i32_5688
  let v3921 : BitVec 32 := Scalar.addi c0_i32_5689 v3920
  v3921.toNat
def k0_dev104 (d0 : Dev nD) : Nat :=
  let c0_i32_5759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5758 : BitVec 32 := 1#32
  let v3966 : BitVec 32 := Scalar.muli v24 c1_i32_5758
  let v3967 : BitVec 32 := Scalar.addi c0_i32_5759 v3966
  v3967.toNat
def k0_dev105 (d0 : Dev nD) : Nat :=
  let c0_i32_5795 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5794 : BitVec 32 := 1#32
  let v3990 : BitVec 32 := Scalar.muli v24 c1_i32_5794
  let v3991 : BitVec 32 := Scalar.addi c0_i32_5795 v3990
  v3991.toNat
def k0_dev106 (d0 : Dev nD) : Nat :=
  let c0_i32_5865 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5864 : BitVec 32 := 1#32
  let v4036 : BitVec 32 := Scalar.muli v13 c1_i32_5864
  let v4037 : BitVec 32 := Scalar.addi c0_i32_5865 v4036
  v4037.toNat
def k0_dev107 (d0 : Dev nD) : Nat :=
  let c0_i32_6583_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6582_r0 : BitVec 32 := 1#32
  let v4557_r0 : BitVec 32 := Scalar.muli v13 c1_i32_6582_r0
  let v4558_r0 : BitVec 32 := Scalar.addi c0_i32_6583_r0 v4557_r0
  v4558_r0.toNat
def k0_dev108 (d0 : Dev nD) : Nat :=
  let c0_i32_6586_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6585_r0 : BitVec 32 := 1#32
  let v4559_r0 : BitVec 32 := Scalar.muli v24 c1_i32_6585_r0
  let v4560_r0 : BitVec 32 := Scalar.addi c0_i32_6586_r0 v4559_r0
  v4560_r0.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x2048x64x64 : Shape := ⟨4, ![4, 2048, 64, 64]⟩
abbrev S4096x4096 : Shape := ⟨2, ![4096, 4096]⟩
abbrev S4x2048x4096 : Shape := ⟨3, ![4, 2048, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x64x64, .f32⟩
  | .hbm, ⟨1, _⟩ => ⟨S4096x4096, .f32⟩
  | .hbm, ⟨2, _⟩ => ⟨S4x2048x4096, .f32⟩
  | .hbm, ⟨3, _⟩ => ⟨S4x2048x4096, .f32⟩
  | _, _ => ⟨S4x2048x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
/-
  The kernel's body as a program of a few parametrised steps. The generated text has every loop
  unrolled; here a step names its direction, round, sub-block and batch, and the body is the loops
  over them. `body_eq` states that the two are the same program.
-/
module

public import proofs.«01_k».proof.Proof.Gen.KernelIdeal.Points
public import Idealize.ShloMosaic.Lib.Pipeline.Regions

@[expose] public section

noncomputable section

namespace Cert.KernelIdeal.Ring

open Idealize.ShloMosaic Idealize.ShloMosaic.TcCoe
open Idealize.SL Idealize.SL.Sem
open Cert.KernelIdeal.Gen

variable {F : FTy → Type} [FloatOps F]

/-- The programs of the body. -/
abbrev P (F : FTy → Type) [FloatOps F] (α : Type) := Prog (TpuEff nD τ sig (Elt F) Λ₀ .tc) α

/-! ## Devices, buffers and semaphores -/

/-- The left and the right neighbour on the ring. -/
def left (c : Dev nD) : Dev nD := ⟨k0_dev1 c, k0_dev1_lt c⟩
def right (c : Dev nD) : Dev nD := ⟨k0_dev2 c, k0_dev2_lt c⟩

/-- Direction 0 sends to the right, direction 1 to the left. -/
def toD (d : Fin 2) (c : Dev nD) : Dev nD := match d with | 0 => right c | 1 => left c
/-- The neighbour a direction's sums come from. -/
def fromD (d : Fin 2) (c : Dev nD) : Dev nD := match d with | 0 => left c | 1 => right c

/-- A direction's communication buffer, of two slots. -/
def comm (d : Fin 2) : Memref sig .tc .vmem S2x4x256x2048 .f32 :=
  match d with | 0 => .whole cc0_scratch1 | 1 => .whole cc0_scratch2
/-- A direction's send and receive semaphores, one per slot and sub-block. -/
def sendS (d : Fin 2) : DmaSems sig S2x4 := match d with | 0 => cc0_scratch4 | 1 => cc0_scratch6
def recvS (d : Fin 2) : DmaSems sig S2x4 := match d with | 0 => cc0_scratch5 | 1 => cc0_scratch7
/-- A direction's credit semaphore. -/
def creditS (d : Fin 2) : Sem sig := match d with | 0 => cc0_scratch8.sem | 1 => cc0_scratch9.sem
/-- The staged weights, the staged result, the buffer of chunks and the chunks' source. -/
abbrev woM : Memref sig .tc .vmem S512x4096 .f32 := win0_0.stage 0
abbrev outM : Memref sig .tc .vmem S4x256x4096 .f32 := win0_1.stage 0
abbrev obuf : Memref sig .tc .vmem S2x4x256x512 .f32 := .whole cc0_scratch0
abbrev oM : Memref sig .tc .hbm S4x2048x512 .f32 := .whole main_v1

/-! ## Offsets and their bounds -/

/-- The other slot. -/
def other (s : Fin 2) : Fin 2 := match s with | 0 => 1 | 1 => 0
/-- The slot a round sends from. -/
def slotOf (t : Fin 7) : Fin 2 := ⟨t.val % 2, Nat.mod_lt _ (by decide)⟩

theorem inbC (s : Fin 2) (q : Fin 4) (a : Fin 4) : (![s.val, 0, 0, 512 * q.val] : Fin 4 → ℕ) a + S1x4x256x512.size a ≤ S2x4x256x2048.size a := by
  revert s q a; decide
theorem inbCb (s : Fin 2) (b q : Fin 4) (a : Fin 4) : (![s.val, b.val, 0, 512 * q.val] : Fin 4 → ℕ) a + S1x1x256x512.size a ≤ S2x4x256x2048.size a := by
  revert s b q a; decide
theorem inbO (d : Fin 2) (a : Fin 4) : (![d.val, 0, 0, 0] : Fin 4 → ℕ) a + S1x4x256x512.size a ≤ S2x4x256x512.size a := by
  revert d a; decide
theorem inbOb (d : Fin 2) (b : Fin 4) (a : Fin 4) : (![d.val, b.val, 0, 0] : Fin 4 → ℕ) a + S1x1x256x512.size a ≤ S2x4x256x512.size a := by
  revert d b a; decide
theorem inbW (d : Fin 2) (q : Fin 4) (a : Fin 2) : (![0, 2048 * d.val + 512 * q.val] : Fin 2 → ℕ) a + S512x512.size a ≤ S512x4096.size a := by
  revert d q a; decide
theorem inbR (d : Fin 2) (b q : Fin 4) (a : Fin 3) : (![b.val, 0, 2048 * d.val + 512 * q.val] : Fin 3 → ℕ) a + S1x256x512.size a ≤ S4x256x4096.size a := by
  revert d b q a; decide
theorem inbS (s : Fin 2) (q : Fin 4) (a : Fin 2) : (![s.val, q.val] : Fin 2 → ℕ) a + S1x1.size a ≤ S2x4.size a := by
  revert s q a; decide
theorem inbS1 (d : Fin 2) (a : Fin 1) : (![d.val] : Fin 1 → ℕ) a + S1.size a ≤ S2.size a := by
  revert d a; decide

/-- Where the chunk of a direction starts in its source: the first one and round `t`'s. -/
def off0 (d : Fin 2) (c : Dev nD) : Fin 3 → ℕ := match d with | 0 => k0_off1 c | 1 => k0_off2 c
def offT (d : Fin 2) (t : Fin 7) (c : Dev nD) : Fin 3 → ℕ :=
  match d with | 0 => k0_off3 c (BitVec.ofNat 32 t.val) | 1 => k0_off4 c (BitVec.ofNat 32 t.val)

theorem inb_off0 (d : Fin 2) (c : Dev nD) (a : Fin 3) : off0 d c a + S4x256x512.size a ≤ S4x2048x512.size a := by
  revert d c a; decide +kernel
theorem inb_offT (d : Fin 2) (t : Fin 7) (c : Dev nD) (a : Fin 3) : offT d t c a + S4x256x512.size a ≤ S4x2048x512.size a := by
  revert d t c a; decide +kernel

/-! ## Pieces of the buffers -/

/-- Sub-block `q` of slot `s` of a direction's buffer, all four batches. -/
def piece (d s : Fin 2) (q : Fin 4) : Memref sig .tc .vmem S4x256x512 .f32 :=
  ((comm d).slice (Rect.unit (s := S2x4x256x2048) ![s.val, 0, 0, 512 * q.val] S1x4x256x512.size (inbC s q)) (fun _ => rfl)).squeeze
    S4x256x512 squeezes_S1x4x256x512_S4x256x512
/-- A direction's slot of the buffer of chunks. -/
def oPiece (d : Fin 2) : Memref sig .tc .vmem S4x256x512 .f32 :=
  (obuf.slice (Rect.unit (s := S2x4x256x512) ![d.val, 0, 0, 0] S1x4x256x512.size (inbO d)) (fun _ => rfl)).squeeze
    S4x256x512 squeezes_S1x4x256x512_S4x256x512
/-- A chunk of the operand at an offset. -/
def oSrc (off : Fin 3 → ℕ) (h : ∀ a, off a + S4x256x512.size a ≤ S4x2048x512.size a) : Memref sig .tc .hbm S4x256x512 .f32 :=
  oM.slice (Rect.unit (s := S4x2048x512) off S4x256x512.size h) (fun _ => rfl)

def sendCell (d s : Fin 2) (q : Fin 4) : DmaSem sig :=
  (((sendS d).slice (Rect.unit (s := S2x4) ![s.val, q.val] S1x1.size (inbS s q))).squeeze S_ squeezes_S1x1_S_).sem
def recvCell (d s : Fin 2) (q : Fin 4) : DmaSem sig :=
  (((recvS d).slice (Rect.unit (s := S2x4) ![s.val, q.val] S1x1.size (inbS s q))).squeeze S_ squeezes_S1x1_S_).sem
def oCell (d : Fin 2) : DmaSem sig :=
  ((cc0_scratch3.slice (Rect.unit (s := S2) ![d.val] S1.size (inbS1 d))).squeeze S_ squeezes_S1_S_).sem
/-- The barrier semaphore. -/
def barS : Sem sig := (SemArray.scalar (sig.barrier 0 rfl) : Sems sig S_).sem

/-! ## Steps -/

/-- The chunk of a direction, batch `b`, as loaded. -/
def ldO (d : Fin 2) (b : Fin 4) : P F (Vec F S1x1x256x512 .f32) :=
  Prog.lift (.load obuf (Rect.unit (s := S2x4x256x512) ![d.val, b.val, 0, 0] S1x1x256x512.size (inbOb d b)).toLoadRect (View.loadsAt_vmem h_S1x1x256x512))
/-- The weights' columns of a direction's sub-block. -/
def ldW (d : Fin 2) (q : Fin 4) : P F (Vec F S512x512 .f32) :=
  Prog.lift (.load woM (Rect.unit (s := S512x4096) ![0, 2048 * d.val + 512 * q.val] S512x512.size (inbW d q)).toLoadRect (View.loadsAt_vmem h_S512x512))
/-- A batch of a sub-block of the communication buffer. -/
def ldC (d s : Fin 2) (q b : Fin 4) : P F (Vec F S1x1x256x512 .f32) :=
  Prog.lift (.load (comm d) (Rect.unit (s := S2x4x256x2048) ![s.val, b.val, 0, 512 * q.val] S1x1x256x512.size (inbCb s b q)).toLoadRect (View.loadsAt_vmem h_S1x1x256x512))
def stC (d s : Fin 2) (q b : Fin 4) (v : FVec F S1x1x256x512 .f32) : P F PUnit :=
  Prog.lift (.store (comm d) (Rect.unit (s := S2x4x256x2048) ![s.val, b.val, 0, 512 * q.val] S1x1x256x512.size (inbCb s b q)) v Finset.univ
    (View.stores_vmem_bits_univ h_S1x1x256x512 rfl) (.inl rfl))
def ldR (d : Fin 2) (q b : Fin 4) : P F (Vec F S1x256x512 .f32) :=
  Prog.lift (.load outM (Rect.unit (s := S4x256x4096) ![b.val, 0, 2048 * d.val + 512 * q.val] S1x256x512.size (inbR d b q)).toLoadRect (View.loadsAt_vmem h_S1x256x512))
def stR (d : Fin 2) (q b : Fin 4) (v : FVec F S1x256x512 .f32) : P F PUnit :=
  Prog.lift (.store outM (Rect.unit (s := S4x256x4096) ![b.val, 0, 2048 * d.val + 512 * q.val] S1x256x512.size (inbR d b q)) v Finset.univ
    (View.stores_vmem_bits_univ h_S1x256x512 rfl) (.inl rfl))

/-- A batch of a chunk times a block of the weights. -/
def prod (o : Vec F S1x1x256x512 .f32) (w : Vec F S512x512 .f32) : FVec F S256x512 .f32 :=
  matmul dot_S256x512_S512x512_S256x512_1_0_0_1_n_n none (shapeCast S256x512 o shapeCasts_S1x1x256x512_S256x512)
    (shapeCast S512x512 w shapeCasts_S512x512_S512x512) (constant S256x512 .f32 0x00000000#32)

/-- The four batches in turn. -/
def each4 (f : Fin 4 → P F PUnit) (k : P F PUnit) : P F PUnit :=
  (f 0).bind fun _ => (f 1).bind fun _ => (f 2).bind fun _ => (f 3).bind fun _ => k

/-- Store a batch's product into slot 0. -/
def first1 (d : Fin 2) (q b : Fin 4) : P F PUnit :=
  (ldO d b).bind fun o => (ldW d q).bind fun w => (ldC d 0 q b).bind fun _ =>
    stC d 0 q b (shapeCast S1x1x256x512 (prod o w) shapeCasts_S256x512_S1x1x256x512)

/-- Add a batch's product to slot `s`. -/
def acc1 (d s : Fin 2) (q b : Fin 4) : P F PUnit :=
  (ldC d s q b).bind fun x => (ldO d b).bind fun o => (ldW d q).bind fun w => (ldC d s q b).bind fun _ =>
    stC d s q b (shapeCast S1x1x256x512 (addf (shapeCast S256x512 x shapeCasts_S1x1x256x512_S256x512) (prod o w)) shapeCasts_S256x512_S1x1x256x512)

/-- The last addition of a batch, into the result. -/
def out1 (d : Fin 2) (q b : Fin 4) : P F PUnit :=
  (ldC d 1 q b).bind fun x => (ldO d b).bind fun o => (ldW d q).bind fun w => (ldR d q b).bind fun _ =>
    stR d q b (shapeCast S1x256x512 (addf (shapeCast S256x512 x shapeCasts_S1x1x256x512_S256x512) (prod o w)) shapeCasts_S256x512_S1x256x512)

/-- Start the transfer of sub-block `q` from slot `s` to the next device's other slot. -/
def send (c : Dev nD) (d s : Fin 2) (q : Fin 4) : P F PUnit :=
  Prog.lift (.enqueueDma (piece d s q) (.remote (Dev.tc (toD d c)) (piece d (other s) q) (.dma (sendCell d s q)))
    (.dma (recvCell d (other s) q)) ((View.wordExact_bits rfl).reshape _ _) ((View.wordExact_bits rfl).reshape _ _) ⟨⟨rfl, Or.inl rfl⟩, trivial⟩)
def waitSend (d s : Fin 2) (q : Fin 4) : P F PUnit :=
  Prog.lift (.waitDma2 (sendCell d s q) (piece d (other s) q) (piece d s q) ((View.wordExact_bits rfl).reshape _ _) ((View.wordExact_bits rfl).reshape _ _))
def waitRecv (d s : Fin 2) (q : Fin 4) : P F PUnit :=
  Prog.lift (.waitDma2 (recvCell d s q) (piece d (other s) q) (piece d s q) ((View.wordExact_bits rfl).reshape _ _) ((View.wordExact_bits rfl).reshape _ _))

/-- Start the copy of a chunk into a direction's slot, and wait for it. -/
def getO (d : Fin 2) (off : Fin 3 → ℕ) (h : ∀ a, off a + S4x256x512.size a ≤ S4x2048x512.size a) : P F PUnit :=
  Prog.lift (.enqueueDma (oSrc off h) (.here (oPiece d)) (.dma (oCell d)) (View.wordExact_bits rfl) ((View.wordExact_bits rfl).reshape _ _) ⟨Or.inl rfl, trivial⟩)
def waitO (d : Fin 2) (off : Fin 3 → ℕ) (h : ∀ a, off a + S4x256x512.size a ≤ S4x2048x512.size a) : P F PUnit :=
  Prog.lift (.waitDma2 (oCell d) (oSrc off h) (oPiece d) (View.wordExact_bits rfl) ((View.wordExact_bits rfl).reshape _ _))

/-- Both directions' chunks of the prologue, and of round `t`. -/
def load0 (c : Dev nD) (k : P F PUnit) : P F PUnit :=
  (getO 0 (off0 0 c) (inb_off0 0 c)).bind fun _ => (getO 1 (off0 1 c) (inb_off0 1 c)).bind fun _ =>
  (waitO 0 (off0 0 c) (inb_off0 0 c)).bind fun _ => (waitO 1 (off0 1 c) (inb_off0 1 c)).bind fun _ => k
def loadT (c : Dev nD) (t : Fin 7) (k : P F PUnit) : P F PUnit :=
  (getO 0 (offT 0 t c) (inb_offT 0 t c)).bind fun _ => (getO 1 (offT 1 t c) (inb_offT 1 t c)).bind fun _ =>
  (waitO 0 (offT 0 t c) (inb_offT 0 t c)).bind fun _ => (waitO 1 (offT 1 t c) (inb_offT 1 t c)).bind fun _ => k

/-- The prologue's sub-block of a direction: fill it and send it. -/
def firstQ (c : Dev nD) (q : Fin 4) (d : Fin 2) (k : P F PUnit) : P F PUnit :=
  each4 (first1 d q) ((send c d 0 q).bind fun _ => k)

/-- Round `t`'s sub-block of a direction, but the last round's: await both ends, release the slot
    sent from, add the own product, await the next device's release and send on. -/
def midQ (c : Dev nD) (t : Fin 7) (q : Fin 4) (d : Fin 2) (k : P F PUnit) : P F PUnit :=
  (waitSend d (slotOf t) q).bind fun _ => (waitRecv d (other (slotOf t)) q).bind fun _ =>
  (semSignalWord (fromD d c) (creditS d) 1#32).bind fun _ =>
  each4 (acc1 d (other (slotOf t)) q) ((semWaitWord (creditS d) 1#32).bind fun _ =>
    (send c d (other (slotOf t)) q).bind fun _ => k)

/-- The last round's sub-block. -/
def lastQ (q : Fin 4) (d : Fin 2) (k : P F PUnit) : P F PUnit :=
  (waitSend d 0 q).bind fun _ => (waitRecv d 1 q).bind fun _ => each4 (out1 d q) k

/-- The eight sub-blocks of a round, the directions in turn. -/
def each8 (f : Fin 4 → Fin 2 → P F PUnit → P F PUnit) (k : P F PUnit) : P F PUnit :=
  f 0 0 (f 0 1 (f 1 0 (f 1 1 (f 2 0 (f 2 1 (f 3 0 (f 3 1 k)))))))

/-- One round but the last. -/
def round (c : Dev nD) (t : Fin 7) (k : P F PUnit) : P F PUnit := loadT c t (each8 (midQ c t) k)

/-- The exchange of one unit with both neighbours on a semaphore. -/
def meet (c : Dev nD) (s : Sem sig) (k : P F PUnit) : P F PUnit :=
  (semSignalWord (left c) s 1#32).bind fun _ => (semSignalWord (right c) s 1#32).bind fun _ => (semWaitWord s 2#32).bind fun _ => k

/-- The whole body. -/
def body : P F PUnit :=
  (Prog.lift .deviceId).bind fun c => meet c barS <| load0 c <| each8 (firstQ c) <|
    round c 0 <| round c 1 <| round c 2 <| round c 3 <| round c 4 <| round c 5 <|
    loadT c 6 <| each8 lastQ <| meet c cc0_scoped0.sem <| pure ⟨⟩

/-- The printed body is `body`. -/
theorem body_eq (t : Fin cfg0.N) : bodyAt0 (F := F) t = body := by
  chain_rfl

end Cert.KernelIdeal.Ring

end
-- ==== Proof.Views.lean ====
/-
  What the loads and stores of the body read and write, batch by batch. A piece of a buffer is the
  sub-block of a slot with all four batches; a load or a store addresses one batch of it.
-/
module

public import proofs.«01_k».proof.Proof.Prog

@[expose] public section

noncomputable section

namespace Cert.KernelIdeal.Ring

open Idealize.ShloMosaic Idealize.ShloMosaic.TcCoe
open Idealize.SL Idealize.SL.Sem
open Cert.KernelIdeal.Gen

variable {Val : EltTy → Type}

/-- Batch `b` of a piece, at a place of a batch as loaded. -/
def inBatch (b : Fin 4) (j : S1x1x256x512.Idx) : S4x256x512.Idx := fun a => match a with | 0 => b | 1 => j 2 | 2 => j 3
/-- A place of a piece, in its batch as loaded. -/
def ofPiece (i : S4x256x512.Idx) : S1x1x256x512.Idx := fun a => match a with | 0 => ⟨0, Nat.one_pos⟩ | 1 => ⟨0, Nat.one_pos⟩ | 2 => i 1 | 3 => i 2
/-- A batch of a piece's values. -/
def row {α : Type} (b : Fin 4) (v : S4x256x512.Idx → α) : S1x1x256x512.Idx → α := fun j => v (inBatch b j)
/-- A piece's values with one batch replaced. -/
def put {α : Type} (b : Fin 4) (w : S1x1x256x512.Idx → α) (v : S4x256x512.Idx → α) : S4x256x512.Idx → α :=
  fun i => if (i 0).val = b.val then w (ofPiece i) else v i

theorem inBatch_ofPiece (i : S4x256x512.Idx) : inBatch (i 0) (ofPiece i) = i := by
  funext a; fin_cases a <;> rfl
theorem ofPiece_inBatch (b : Fin 4) (j : S1x1x256x512.Idx) : ofPiece (inBatch b j) = j := by
  funext a; fin_cases a
  · exact Subsingleton.elim (α := Fin 1) _ _
  · exact Subsingleton.elim (α := Fin 1) _ _
  · rfl
  · rfl
theorem row_put_ne {α : Type} {b b' : Fin 4} (h : b ≠ b') (w : S1x1x256x512.Idx → α) (v : S4x256x512.Idx → α) :
    row b (put b' w v) = row b v := funext fun j => if_neg fun e => h (Fin.ext e)

/-! ## A slot's sub-block in a buffer of two slots -/

section Slots

variable {W : ℕ} (M : Memref sig .tc .vmem ⟨4, ![2, 4, 256, W]⟩ .f32) (s : Fin 2) (b : Fin 4) (o : ℕ)
variable (hP : ∀ a, (![s.val, 0, 0, o] : Fin 4 → ℕ) a + S1x4x256x512.size a ≤ (⟨4, ![2, 4, 256, W]⟩ : Shape).size a)
variable (hB : ∀ a, (![s.val, b.val, 0, o] : Fin 4 → ℕ) a + S1x1x256x512.size a ≤ (⟨4, ![2, 4, 256, W]⟩ : Shape).size a)

/-- The sub-block at column `o` of slot `s`. -/
abbrev subBlock : Memref sig .tc .vmem S4x256x512 .f32 :=
  (M.slice (Rect.unit (s := ⟨4, ![2, 4, 256, W]⟩) ![s.val, 0, 0, o] S1x4x256x512.size hP) (fun _ => rfl)).squeeze
    S4x256x512 squeezes_S1x4x256x512_S4x256x512
/-- One batch of it. -/
abbrev batchAt : Rect ⟨4, ![2, 4, 256, W]⟩ := Rect.unit (s := ⟨4, ![2, 4, 256, W]⟩) ![s.val, b.val, 0, o] S1x1x256x512.size hB

/-- A place of the batch is the sub-block's place in that batch. -/
theorem emb_batch (j : S1x1x256x512.Idx) :
    (M.access (batchAt s b o hB)).emb j = (subBlock M s o hP).view.emb (inBatch b j) := by
  show M.view.emb ((batchAt s b o hB).emb j)
    = M.view.emb ((Rect.unit (s := ⟨4, ![2, 4, 256, W]⟩) ![s.val, 0, 0, o] S1x4x256x512.size hP).emb
        (Shape.reshapeEquiv (squeezes_S1x4x256x512_S4x256x512 : S1x4x256x512.Squeezes S4x256x512).numel_eq (inBatch b j)))
  refine congrArg M.view.emb ?_
  have hr : Shape.reshapeEquiv (squeezes_S1x4x256x512_S4x256x512 : S1x4x256x512.Squeezes S4x256x512).numel_eq (inBatch b j)
      = (Fin.cons ⟨0, Nat.one_pos⟩ (inBatch b j) : S1x4x256x512.Idx) :=
    Shape.reshapeEquiv_cons_one (n := 3) (d := ![4, 256, 512]) _ _
  rw [hr]
  funext a
  apply Fin.ext
  have h0 : (j 0).val = 0 := Nat.lt_one_iff.mp (j 0).isLt
  have h1 : (j 1).val = 0 := Nat.lt_one_iff.mp (j 1).isLt
  fin_cases a
  · show s.val + 1 * (j 0).val = s.val + 1 * 0
    rw [h0]
  · show b.val + 1 * (j 1).val = 0 + 1 * b.val
    rw [h1]; omega
  · rfl
  · rfl

/-- A batch lies in its sub-block. -/
theorem batch_subset : (M.access (batchAt s b o hB)).set ⊆ (subBlock M s o hP).view.set := by
  intro x hx
  obtain ⟨j, -, rfl⟩ := Finset.mem_map.mp hx
  rw [emb_batch M s b o hP hB j]
  exact View.emb_mem_set _ _

/-- A load of a batch reads that batch of what the sub-block reads. -/
theorem read_batch (f : M.view.ty.Contents Val) :
    (M.access (batchAt s b o hB)).read Val f = row b ((subBlock M s o hP).view.read Val f) := by
  funext j
  show (M.access (batchAt s b o hB)).read Val f j = (subBlock M s o hP).view.read Val f (inBatch b j)
  rw [View.read_apply, View.read_apply, emb_batch M s b o hP hB j]

/-- A store of a batch replaces that batch of what the sub-block reads. -/
theorem write_batch (f : M.view.ty.Contents Val) (w : S1x1x256x512.Idx → Val .f32) :
    (subBlock M s o hP).view.read Val ((M.access (batchAt s b o hB)).write Val f w Finset.univ)
      = put b w ((subBlock M s o hP).view.read Val f) := by
  funext i
  unfold put
  by_cases h : (i 0).val = b.val
  · rw [if_pos h, View.read_apply]
    have hi : (subBlock M s o hP).view.emb i = (M.access (batchAt s b o hB)).emb (ofPiece i) := by
      rw [emb_batch M s b o hP hB, show b = i 0 from (Fin.ext h).symm, inBatch_ofPiece]
    rw [hi, View.write_emb_of_mem _ _ (Finset.mem_univ _), cast_cast, cast_eq]
  · rw [if_neg h, View.read_apply, View.read_apply]
    refine congrArg _ (View.write_of_not_mem _ _ _ fun hm => h ?_)
    obtain ⟨j, -, hj⟩ := Finset.mem_map.mp hm
    rw [emb_batch M s b o hP hB] at hj
    rw [← (subBlock M s o hP).view.emb.injective hj]
    rfl

end Slots

/-! ## The neighbours -/

theorem to_from (d : Fin 2) (c : Dev nD) : toD d (fromD d c) = c := by revert d c; decide
theorem from_to (d : Fin 2) (c : Dev nD) : fromD d (toD d c) = c := by revert d c; decide
/-- The shift of the ring in a direction. -/
def shift (d : Fin 2) : Dev nD ≃ Dev nD := ⟨toD d, fromD d, from_to d, to_from d⟩
theorem left_right (c : Dev nD) : left (right c) = c := by revert c; decide
theorem right_left (c : Dev nD) : right (left c) = c := by revert c; decide
theorem other_other (s : Fin 2) : other (other s) = s := by revert s; decide

end Cert.KernelIdeal.Ring

end
-- ==== Proof.Sched.lean ====
/-
  The protocol of the body. Every semaphore cell of a device has a class; a schedule says, class by
  class, what is paid to a cell in which round and what comes with the payment.

  A transfer `k = 0, …, 6` of a direction moves a sub-block from slot `k % 2` of a device to the other
  slot of the next device. A credit tells the previous device that a slot has been left; credits may
  land in any order, so each only carries the knowledge of all the releases up to its own.
-/
module

public import proofs.«01_k».proof.Proof.Views
public import Idealize.ShloMosaic.Lib.Pipeline.Kit
public import Idealize.ShloMosaic.Lib.Rounds
public import Idealize.ShloMosaic.Lib.Release
public import Idealize.ShloMosaic.Lib.Tactic
public import Mathlib.Tactic.Abel
public import Mathlib.Algebra.BigOperators.Intervals

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

/-! ## Cells -/

/-- The body's own semaphores: the send cells and the receive cells (direction, slot, sub-block), the credits and
    the cells of the chunks' copies (direction), and the one of the closing exchange. -/
abbrev Own : Type := ((Fin 2 × Fin 2 × Fin 4) ⊕ (Fin 2 × Fin 2 × Fin 4)) ⊕ ((Fin 2 ⊕ Fin 2) ⊕ Unit)
/-- With the barrier's. -/
abbrev Cl : Type := Own ⊕ Unit

abbrev Cl.send (d s : Fin 2) (q : Fin 4) : Cl := .inl (.inl (.inl (d, s, q)))
abbrev Cl.recv (d s : Fin 2) (q : Fin 4) : Cl := .inl (.inl (.inr (d, s, q)))
abbrev Cl.credit (d : Fin 2) : Cl := .inl (.inr (.inl (.inl d)))
abbrev Cl.copy (d : Fin 2) : Cl := .inl (.inr (.inl (.inr d)))
abbrev Cl.leave : Cl := .inl (.inr (.inr ()))
abbrev Cl.enter : Cl := .inr ()

/-- The semaphore of a class. -/
def semOf : Cl → SemLoc sig
  | .inl (.inl (.inl (d, s, q))) => .dma (sendCell d s q)
  | .inl (.inl (.inr (d, s, q))) => .dma (recvCell d s q)
  | .inl (.inr (.inl (.inl d))) => .reg (creditS d)
  | .inl (.inr (.inl (.inr d))) => .dma (oCell d)
  | .inl (.inr (.inr ())) => .reg cc0_scoped0.sem
  | .inr () => .reg barS

theorem semOf_inj : Function.Injective semOf := by decide +kernel

open Classical in
/-- The class of a semaphore, if it has one. -/
def clOf (s : SemLoc sig) : Option Cl := if h : ∃ cl, semOf cl = s then some h.choose else none

theorem clOf_semOf (cl : Cl) : clOf (semOf cl) = some cl := by
  unfold clOf
  have h : ∃ cl', semOf cl' = semOf cl := ⟨cl, rfl⟩
  rw [dif_pos h]
  exact congrArg some (semOf_inj h.choose_spec)

/-- A device's cell of a class. -/
abbrev cell (c : Dev nD) (cl : Cl) : GSem nD τ sig := ((c : Thread nD τ), semOf cl)

/-! ## Numbers -/

/-- The slot transfer `k` starts from. -/
def sl (k : ℕ) : Fin 2 := ⟨k % 2, Nat.mod_lt _ (by decide)⟩
theorem sl_succ (k : ℕ) : sl (k + 1) = other (sl k) := by
  rcases Nat.mod_two_eq_zero_or_one k with h | h
  · rw [show sl k = 0 from Fin.ext h, show sl (k + 1) = 1 from Fin.ext (by show (k + 1) % 2 = 1; omega)]; rfl
  · rw [show sl k = 1 from Fin.ext h, show sl (k + 1) = 0 from Fin.ext (by show (k + 1) % 2 = 0; omega)]; rfl

/-- The transfer a slot's send cell counts in round `r`, and its receive cell. -/
def kS (s : Fin 2) (r : ℕ) : ℕ := 2 * r + s.val
def kR (s : Fin 2) (r : ℕ) : ℕ := 2 * r + (other s).val
theorem kS_sl (k : ℕ) : kS (sl k) (k / 2) = k := by unfold kS sl; dsimp only; omega
theorem kR_sl (k : ℕ) : kR (other (sl k)) (k / 2) = k := by unfold kR; rw [other_other]; exact kS_sl k

/-- The number of transfer `k` of sub-block `q` in direction `d`, among all of a device's in the order they start. -/
def num (k : ℕ) (q : Fin 4) (d : Fin 2) : ℕ := 8 * k + (2 * q.val + d.val)

/-! ## The chunks and the sums -/

/-- Where chunk `j` of a direction starts in the operand: the prologue's, then round by round. -/
def srcOff (c : Dev nD) (d : Fin 2) : ℕ → Fin 3 → ℕ
  | 0 => off0 d c
  | t + 1 => if h : t < 7 then offT d ⟨t, h⟩ c else off0 d c
theorem inb_srcOff (c : Dev nD) (d : Fin 2) (j : ℕ) (a : Fin 3) : srcOff c d j a + S4x256x512.size a ≤ S4x2048x512.size a := by
  cases j with
  | zero => exact inb_off0 d c a
  | succ t =>
    show (if h : t < 7 then offT d ⟨t, h⟩ c else off0 d c) a + _ ≤ _
    split
    · exact inb_offT d _ c a
    · exact inb_off0 d c a
/-- The chunk. -/
abbrev src (c : Dev nD) (d : Fin 2) (j : ℕ) : Memref sig .tc .hbm S4x256x512 .f32 := oSrc (srcOff c d j) (inb_srcOff c d j)

variable (X : Dev nD → (main_v1 : Ref sig .tc).ty.Contents (Elt F)) (Y : Dev nD → S512x4096.Idx → Elt F .f32)

/-- Chunk `j` of device `c`'s operand in a direction. -/
def chunk (c : Dev nD) (d : Fin 2) (j : ℕ) : S4x256x512.Idx → Elt F .f32 := (src c d j).view.read (Elt F) (X c)
/-- The columns of a sub-block of a direction in device `c`'s weights. -/
def cols (c : Dev nD) (d : Fin 2) (q : Fin 4) : S512x512.Idx → Elt F .f32 :=
  fun j => Y c ((Rect.unit (s := S512x4096) ![0, 2048 * d.val + 512 * q.val] S512x512.size (inbW d q)).emb j)

/-- The values the prologue stores and those a round stores, from what it loads. -/
def firstV (o : Vec F S1x1x256x512 .f32) (w : Vec F S512x512 .f32) : FVec F S1x1x256x512 .f32 :=
  shapeCast S1x1x256x512 (prod o w) shapeCasts_S256x512_S1x1x256x512
def sumV (x o : Vec F S1x1x256x512 .f32) (w : Vec F S512x512 .f32) : FVec F S256x512 .f32 :=
  addf (shapeCast S256x512 x shapeCasts_S1x1x256x512_S256x512) (prod o w)
def accV (x o : Vec F S1x1x256x512 .f32) (w : Vec F S512x512 .f32) : FVec F S1x1x256x512 .f32 :=
  shapeCast S1x1x256x512 (sumV x o w) shapeCasts_S256x512_S1x1x256x512
def outV (x o : Vec F S1x1x256x512 .f32) (w : Vec F S512x512 .f32) : FVec F S1x256x512 .f32 :=
  shapeCast S1x256x512 (sumV x o w) shapeCasts_S256x512_S1x256x512

/-- The partial sum a device sends in transfer `k`. -/
def sent : ℕ → Dev nD → Fin 2 → Fin 4 → S4x256x512.Idx → Elt F .f32
  | 0, c, d, q => fun i => firstV (row (i 0) (chunk X c d 0)) (cols Y c d q) (ofPiece i)
  | k + 1, c, d, q => fun i =>
      accV (row (i 0) (sent k (fromD d c) d q)) (row (i 0) (chunk X c d (k + 1))) (cols Y c d q) (ofPiece i)

/-! ## The resources -/

/-- The pipeline library's component, the protocol's rounds, and the releases (device, direction, credit). -/
abbrev Key : Type := Dev nD × Fin 2 × ℕ
abbrev UU : Type := UR sig nD τ × (URounds (GSem nD τ sig) ℕ × USlots Key)

local notation "𝕄" => MT nD τ sig ℕ (Elt F) ℕ UU ℕ

abbrev EP : Emb (UR sig nD τ) (MT nD τ sig ℕ (Elt F) ℕ UU ℕ) := embL
def ER : Emb (URounds (GSem nD τ sig) ℕ) (MT nD τ sig ℕ (Elt F) ℕ UU ℕ) := (Emb.inl : Emb _ (URounds (GSem nD τ sig) ℕ × USlots Key)).trans embR
def ES : Emb (USlots Key) (MT nD τ sig ℕ (Elt F) ℕ UU ℕ) := (Emb.inr : Emb _ (URounds (GSem nD τ sig) ℕ × USlots Key)).trans embR
instance : (ER (F := F)).LandsIn (upEmb : UEmb _ 𝕄) := by unfold ER; infer_instance
instance : (ES (F := F)).LandsIn (upEmb : UEmb _ 𝕄) := by unfold ES; infer_instance

/-- A memref's elements on device `c`, reading `v`. -/
def holds (c : Dev nD) {sp : Space} {s : Shape} {e : EltTy} (m : Memref sig .tc sp s e) (v : s.Idx → Elt F e) : sProp 𝕄 :=
  iprop(∃ f : Buf (Elt F) (m.view.loc (c : Thread nD τ)), ⌜m.view.read (Elt F) f = v⌝ ∗ m.view.loc (c : Thread nD τ) ↦[m.view.set]{fullShare} f)
/-- The same at any contents. -/
def room (c : Dev nD) {sp : Space} {s : Shape} {e : EltTy} (m : Memref sig .tc sp s e) : sProp 𝕄 :=
  iprop(∃ f : Buf (Elt F) (m.view.loc (c : Thread nD τ)), m.view.loc (c : Thread nD τ) ↦[m.view.set]{fullShare} f)

section
variable (c : Dev nD) {sp : Space} {s : Shape} {e : EltTy} (m : Memref sig .tc sp s e) (v : s.Idx → Elt F e)
instance : Storable (upEmb : UEmb _ 𝕄) (holds c m v) := by unfold holds; infer_instance
instance : Storable (upEmb : UEmb _ 𝕄) (room (F := F) c m) := by unfold room; infer_instance
theorem holds_room : (holds c m v : sProp 𝕄) ⊢ room c m := by
  unfold holds room
  iintro ⟨%f, -, H⟩
  iexists f; iexact H
end

/-- What a transfer into slot `s` of device `c` needs there: the sub-block, and that the receive cell has come to round `r`. -/
def landing (c : Dev nD) (d s : Fin 2) (q : Fin 4) (r : ℕ) : sProp 𝕄 :=
  iprop(room c (piece d s q) ∗ reached ER (cell c (.recv d s q)) r)
instance (c : Dev nD) (d s : Fin 2) (q : Fin 4) (r : ℕ) : Storable (upEmb : UEmb _ 𝕄) (landing (F := F) c d s q r) := by
  unfold landing; infer_instance

/-- What device `c` must know before it signals the device its sums come from: the cells there are open. -/
def met (c : Dev nD) (d : Fin 2) : sProp 𝕄 :=
  iprop(reached ER (cell (fromD d c) (.credit d)) 0 ∗ reached ER (cell (fromD d c) .leave) 0)
instance (c : Dev nD) (d : Fin 2) : Storable (upEmb : UEmb _ 𝕄) (met (F := F) c d) := by unfold met; infer_instance
instance (c : Dev nD) (d : Fin 2) : BI.Persistent (met (F := F) c d) := by unfold met; infer_instance
/-- What device `c` gets at the opening from the device it sends to in direction `d`. -/
def greet (c : Dev nD) (d : Fin 2) : sProp 𝕄 :=
  iprop((bigSep Finset.univ fun q : Fin 4 => landing (toD d c) d 1 q 0) ∗ met c (other d))
instance (c : Dev nD) (d : Fin 2) : Storable (upEmb : UEmb _ 𝕄) (greet (F := F) c d) := by unfold greet; infer_instance

/-- The sub-block of a credit. -/
def subOf (n : ℕ) : Fin 4 := ⟨n % 4, Nat.mod_lt _ (by decide)⟩
/-- What credit `n` of a direction hands over: the slot device `c` has sent transfer `n / 4` from. -/
def handed (x : Key) : sProp 𝕄 := landing x.1 x.2.1 (sl (x.2.2 / 4)) (subOf x.2.2) ((x.2.2 / 4 + 1) / 2)
instance (x : Key) : Storable (upEmb : UEmb _ 𝕄) (handed (F := F) x) := by unfold handed; infer_instance

/-- What credit `n` tells: the slots released up to it. -/
def told (c : Dev nD) (d : Fin 2) (n : ℕ) : sProp 𝕄 :=
  bigSep (Finset.range (n + 1)) fun i => released ES ((c, d, i) : Key) 1
instance (c : Dev nD) (d : Fin 2) (n : ℕ) : Storable (upEmb : UEmb _ 𝕄) (told (F := F) c d n) := by unfold told; infer_instance
instance (c : Dev nD) (d : Fin 2) (n : ℕ) : BI.Persistent (told (F := F) c d n) := by unfold told; infer_instance

/-! ## The schedule -/

/-- The duties of a class in a round. -/
def duties : Cl → ℕ → Finset ℕ
  | .inl (.inl (.inl (d, s, q))), r => if kS s r < 7 then {0} else ∅
  | .inl (.inl (.inr (d, s, q))), r => if kR s r < 7 then {0} else ∅
  | .inl (.inr (.inl (.inl d))), r => if r = 0 then Finset.range 24 else ∅
  | .inl (.inr (.inl (.inr d))), r => if r < 8 then {0} else ∅
  | .inl (.inr (.inr ())), r => if r = 0 then {0, 1} else ∅
  | .inr (), r => if r = 0 then {0, 1} else ∅

/-- The units a payment counts. -/
def amount : Cl → ℕ
  | .inl (.inl (.inl (d, s, q))) => (piece d s q).view.dmaCredit
  | .inl (.inl (.inr (d, s, q))) => (piece d s q).view.dmaCredit
  | .inl (.inr (.inl (.inr d))) => (oPiece d).view.dmaCredit
  | _ => 1

theorem amount_pos (cl : Cl) : 0 < amount cl := by
  unfold amount
  split <;> first | exact Nat.one_pos | exact View.dmaCredit_pos _ (by decide)

/-- The direction a duty of an exchange names. -/
def dirOf (i : ℕ) : Fin 2 := ⟨i % 2, Nat.mod_lt _ (by decide)⟩

/-- The half of the operand's share that a direction copies from. -/
def shareOf (d : Fin 2) : PosShare TreeShare := match d with | 0 => fullShare.left | 1 => fullShare.right
/-- Device `c`'s operand, a set of its elements at a direction's share. -/
def operand (c : Dev nD) (d : Fin 2) (S : Finset (Idx (oM.view.loc (c : Thread nD τ)))) : sProp 𝕄 :=
  oM.view.loc (c : Thread nD τ) ↦[S]{shareOf d} X c
instance operand_storable (c : Dev nD) (d : Fin 2) (S : Finset (Idx (oM.view.loc (c : Thread nD τ)))) : Storable (upEmb : UEmb _ 𝕄) (operand X c d S) := by
  unfold operand; infer_instance

/-- What the copy of chunk `r` delivers: the chunk, and its source back. -/
def copied (c : Dev nD) (d : Fin 2) (r : ℕ) : sProp 𝕄 :=
  iprop(holds c (oPiece d) (chunk X c d r) ∗ operand X c d (src c d r).view.set)
instance (c : Dev nD) (d : Fin 2) (r : ℕ) : Storable (upEmb : UEmb _ 𝕄) (copied X c d r) := by
  have h := operand_storable X c d (src c d r).view.set
  unfold copied; infer_instance

/-- What comes with a payment to a device's cell: a sub-block sent comes back, the partial sum arrives in one received, a
    credit tells of releases, a copy brings its chunk and returns its source, the barrier brings what the next devices grant. -/
def payload (c : Dev nD) : Cl → ℕ → ℕ → sProp 𝕄
  | .inl (.inl (.inl (d, s, q))), r, i => room c (piece d s q)
  | .inl (.inl (.inr (d, s, q))), r, i => holds c (piece d s q) (sent X Y (kR s r) (fromD d c) d q)
  | .inl (.inr (.inl (.inl d))), r, i => told (toD d c) d i
  | .inl (.inr (.inl (.inr d))), r, i => copied X c d r
  | .inl (.inr (.inr ())), r, i => iprop(emp)
  | .inr (), r, i => greet c (dirOf i)

instance (c : Dev nD) (cl : Cl) (r i : ℕ) : Storable (upEmb : UEmb _ 𝕄) (payload X Y c cl r i) := by
  unfold payload
  split <;> infer_instance

/-- The schedule of all the cells. -/
def Rd : Schedule (GSem nD τ sig) ℕ 𝕄 where
  duties g r := match clOf g.2 with | some cl => duties cl r | none => ∅
  unitless _ := False
  amount g _ _ := match clOf g.2 with | some cl => amount cl | none => 1
  payload g r i := match clOf g.2 with | some cl => payload X Y g.1.1 cl r i | none => iprop(emp)
  amount_pos g _ _ _ := by
    split
    · exact amount_pos _
    · exact Nat.one_pos

instance Rd_storable (g : GSem nD τ sig) (r i : ℕ) : Storable (upEmb : UEmb _ 𝕄) ((Rd X Y).payload g r i) := by
  unfold Rd; dsimp only
  split <;> infer_instance

section
variable (c : Dev nD) (cl : Cl) (r i : ℕ)
theorem Rd_duties : (Rd X Y).duties (cell c cl) r = duties cl r := by
  show (match clOf (semOf cl) with | some cl => duties cl r | none => ∅) = _
  rw [clOf_semOf]
theorem Rd_amount : (Rd X Y).amount (cell c cl) r i = amount cl := by
  show (match clOf (semOf cl) with | some cl => amount cl | none => 1) = _
  rw [clOf_semOf]
theorem Rd_payload : (Rd X Y).payload (cell c cl) r i = payload X Y c cl r i := by
  show (match clOf (semOf cl) with | some cl => payload X Y c cl r i | none => iprop(emp)) = _
  rw [clOf_semOf]
theorem Rd_mem (h : i ∈ duties cl r) : i ∈ (Rd X Y).duties (cell c cl) r := by rwa [Rd_duties]
theorem Rd_pays {Pr : sProp 𝕄} (h : Pr ⊢ payload X Y c cl r i) : Pr ⊢ (Rd X Y).payload (cell c cl) r i := by rwa [Rd_payload]
theorem Rd_expect : (Rd X Y).expect (cell c cl) r = (duties cl r).card * amount cl := by
  unfold Schedule.expect Schedule.amountOf
  rw [Rd_duties, Finset.sum_congr rfl fun i _ => Rd_amount X Y c cl r i, Finset.sum_const, smul_eq_mul]
/-- What the wait of a round with the one duty `0` takes. -/
theorem Rd_rest (h : duties cl r = {0}) :
    bigSep ((Rd X Y).duties (cell c cl) r \ ∅) (fun i => (Rd X Y).payload (cell c cl) r i) = payload X Y c cl r 0 := by
  rw [Finset.sdiff_empty, Rd_duties, h, bigSep_singleton, Rd_payload]
theorem Rd_expect_one (h : duties cl r = {0}) : 0 + amount cl = (Rd X Y).expect (cell c cl) r := by
  rw [Rd_expect, h, Finset.card_singleton]; omega
end

/-! ## What a device owes at launch, and the order of the waits -/

/-- The unit that transfer `m` brings to the next device, and the one of credit `j` to the previous one. -/
def owesT (m : ℕ) (c : Dev nD) : CellTallies nD τ sig ℕ :=
  tallyAt (cell (toD (dirOf m) c) (.recv (dirOf m) (other (sl (m / 8))) (subOf (m / 2)))) m (amount (.recv (dirOf m) (other (sl (m / 8))) (subOf (m / 2))))
def owesC (j : ℕ) (c : Dev nD) : CellTallies nD τ sig ℕ := tallyAt (cell (fromD (dirOf j) c) (.credit (dirOf j))) j 1
/-- The units of an exchange to both neighbours. -/
def owesX (cl : Cl) (c : Dev nD) : CellTallies nD τ sig ℕ := tallyAt (cell (left c) cl) 0 1 + tallyAt (cell (right c) cl) 0 1

/-- What is owed before transfer `a` and credit `b`. -/
def due (a b : ℕ) (c : Dev nD) : CellTallies nD τ sig ℕ :=
  ∑ m ∈ Finset.Ico a 56, owesT m c + ∑ j ∈ Finset.Ico b 48, owesC j c + owesX .leave c
def due₀ (c : Dev nD) : CellTallies nD τ sig ℕ := due 0 0 c + owesX .enter c

theorem due_send {a b : ℕ} (h : a < 56) (c : Dev nD) : due a b c = due (a + 1) b c + owesT a c := by
  unfold due; rw [Finset.sum_eq_sum_Ico_succ_bot h]; abel
theorem due_credit {a b : ℕ} (h : b < 48) (c : Dev nD) : due a b c = due a (b + 1) c + owesC b c := by
  unfold due; rw [Finset.sum_eq_sum_Ico_succ_bot h]; abel
theorem due_end (c : Dev nD) : due 56 48 c = owesX .leave c := by
  unfold due; simp

/-- The order of the waits: transfers and credits in turn, after the local cells and the opening, before the close. -/
def lvCl : Cl → ℕ → ℕ
  | .inl (.inl (.inl _)), _ => 0
  | .inl (.inl (.inr _)), m => 2 * m + 2
  | .inl (.inr (.inl (.inl _))), j => 2 * j + 3
  | .inl (.inr (.inl (.inr _))), _ => 0
  | .inl (.inr (.inr ())), _ => 1000
  | .inr (), _ => 1
def lv (g : GSem nD τ sig) (i : ℕ) : ℕ := match clOf g.2 with | some cl => lvCl cl i | none => 0
def L (g : GSem nD τ sig) : Finset ℕ := if g.1.2 = .tc then Finset.range 64 else ∅
theorem lv_cell (c : Dev nD) (cl : Cl) (i : ℕ) : lv (cell c cl) i = lvCl cl i := by
  show (match clOf (semOf cl) with | some cl => lvCl cl i | none => 0) = _
  rw [clOf_semOf]
theorem L_of_ne (g : GSem nD τ sig) (h : g.1.2 ≠ .tc) : L g = ∅ := if_neg h
theorem L_tc (c : Dev nD) (sm : SemLoc sig) : L ((c : Thread nD τ), sm) = Finset.range 64 := if_pos rfl

theorem tallyAt_pos {g g' : GSem nD τ sig} {i i' n : ℕ} (h : 0 < (tallyAt g i n : CellTallies nD τ sig ℕ) g' i') : g' = g ∧ i' = i := by
  rw [tallyAt_apply] at h
  by_contra hn
  rw [if_neg hn] at h
  exact absurd h (Nat.lt_irrefl 0)

/-- Whatever is owed before transfer `a` and credit `b` comes after the two. -/
theorem due_above {a b cut : ℕ} (c : Dev nD) (ha : cut < 2 * a + 2) (hb : cut < 2 * b + 3) (hc : cut < 1000) (g : GSem nD τ sig) (i : ℕ)
    (h : 0 < due a b c g i) : i ∈ L g ∧ cut < lv g i := by
  unfold due owesX at h
  simp only [Pi.add_apply, Finsupp.add_apply, Finset.sum_apply, Finsupp.finsetSum_apply] at h
  have hsplit : (∃ m ∈ Finset.Ico a 56, 0 < owesT m c g i) ∨ (∃ j ∈ Finset.Ico b 48, 0 < owesC j c g i)
      ∨ 0 < (tallyAt (cell (left c) .leave) 0 1 : CellTallies nD τ sig ℕ) g i ∨ 0 < (tallyAt (cell (right c) .leave) 0 1 : CellTallies nD τ sig ℕ) g i := by
    by_contra hn
    push Not at hn
    obtain ⟨h1, h2, h3, h4⟩ := hn
    rw [Finset.sum_eq_zero fun m hm => Nat.le_zero.mp (h1 m hm), Finset.sum_eq_zero fun m hm => Nat.le_zero.mp (h2 m hm)] at h
    omega
  rcases hsplit with ⟨m, hm, hp⟩ | ⟨j, hj, hp⟩ | hp | hp
  · obtain ⟨rfl, rfl⟩ := tallyAt_pos hp
    rw [L_tc, lv_cell]
    have := Finset.mem_Ico.mp hm
    exact ⟨Finset.mem_range.mpr (by omega), by show cut < 2 * i + 2; omega⟩
  · obtain ⟨rfl, rfl⟩ := tallyAt_pos hp
    rw [L_tc, lv_cell]
    have := Finset.mem_Ico.mp hj
    exact ⟨Finset.mem_range.mpr (by omega), by show cut < 2 * i + 3; omega⟩
  all_goals
    obtain ⟨rfl, rfl⟩ := tallyAt_pos hp
    rw [L_tc, lv_cell]
    exact ⟨Finset.mem_range.mpr (by omega), hc⟩

/-- A device may wait on a cell of its own that comes before what it owes. -/
theorem mayWait (c : Dev nD) (cl : Cl) (i : ℕ) (hi : i < 64) {O : CellTallies nD τ sig ℕ}
    (hO : ∀ g u, 0 < O g u → u ∈ L g ∧ lvCl cl i < lv g u) :
    (levAts L lv : sProp 𝕄) ⊢ MayWait (c : Thread nD τ) (semOf cl) i O :=
  MayOwe.of_cut (L := L) (lev := lv) (lvCl cl i)
    (fun p hp => by rw [Finset.mem_singleton.mp hp, L_tc]; exact Finset.mem_range.mpr hi)
    (fun g u hg => (hO g u hg).1)
    (fun p hp => by rw [Finset.mem_singleton.mp hp]; exact le_of_eq (lv_cell c cl i))
    (fun g u hg => (hO g u hg).2)

end Cert.KernelIdeal.Ring

end
-- ==== Proof.Steps.lean ====
/-
  What the body's loads and stores do to the buffers' contents: the four batches of a sub-block in
  turn store a product, add one to what arrived, or write the finished sum to the result.
-/
module

public import proofs.«01_k».proof.Proof.Sched

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

abbrev 𝒱₀ : Variants := Variants.none

/-- Device `c` runs the program and ends with `Q`. -/
abbrev Runs (c : Dev nD) {α : Type} (p : P F α) (Q : α → sProp 𝕄) : sProp 𝕄 :=
  wp frame (wpE (defs₀ (F := F)) 𝒱₀ (c : Thread nD τ) none) Set.univ p Q

variable (c : Dev nD) (d s : Fin 2) (q b : Fin 4) {α : Type}

/-! ## One load or store -/

theorem run_ldO (v : S4x256x512.Idx → Elt F .f32) (k : Vec F S1x1x256x512 .f32 → P F α) {Q : α → sProp 𝕄} :
    (holds c (oPiece d) v : sProp 𝕄) ⊢ iprop((holds c (oPiece d) v -∗ Runs c (k (row b v)) Q) -∗ Runs c ((ldO d b).bind k) Q) := by
  have h (f) : ((oPiece d).view.loc (c : Thread nD τ) ↦[(oPiece d).view.set]{fullShare} f : sProp 𝕄)
      ⊢ iprop((((oPiece d).view.loc (c : Thread nD τ) ↦[(oPiece d).view.set]{fullShare} f) -∗ Runs c (k (row b ((oPiece d).view.read (Elt F) f))) Q)
        -∗ Runs c ((ldO d b).bind k) Q) :=
    (congrArg k (read_batch obuf d b 0 (inbO d) (inbOb d b) f)) ▸
    wp_load_rect 𝒱₀ (c : Thread nD τ) none Set.univ (m := obuf) (r := batchAt d b 0 (inbOb d b)) (k := k)
      (batch_subset obuf d b 0 (inbO d) (inbOb d b))
  unfold holds
  iintro ⟨%f, %hf, Hp⟩ Hk
  subst hf
  iapply (h f) $$ Hp
  iintro Hp
  iapply Hk
  iexists f
  isplitr; · ipureintro; rfl
  iexact Hp

theorem run_ldC (v : S4x256x512.Idx → Elt F .f32) (k : Vec F S1x1x256x512 .f32 → P F α) {Q : α → sProp 𝕄} :
    (holds c (piece d s q) v : sProp 𝕄) ⊢ iprop((holds c (piece d s q) v -∗ Runs c (k (row b v)) Q) -∗ Runs c ((ldC d s q b).bind k) Q) := by
  have h (f) : ((piece d s q).view.loc (c : Thread nD τ) ↦[(piece d s q).view.set]{fullShare} f : sProp 𝕄)
      ⊢ iprop((((piece d s q).view.loc (c : Thread nD τ) ↦[(piece d s q).view.set]{fullShare} f) -∗ Runs c (k (row b ((piece d s q).view.read (Elt F) f))) Q)
        -∗ Runs c ((ldC d s q b).bind k) Q) :=
    (congrArg k (read_batch (comm d) s b (512 * q.val) (inbC s q) (inbCb s b q) f)) ▸
    wp_load_rect 𝒱₀ (c : Thread nD τ) none Set.univ (m := comm d) (r := batchAt s b (512 * q.val) (inbCb s b q)) (k := k)
      (batch_subset (comm d) s b (512 * q.val) (inbC s q) (inbCb s b q))
  unfold holds
  iintro ⟨%f, %hf, Hp⟩ Hk
  subst hf
  iapply (h f) $$ Hp
  iintro Hp
  iapply Hk
  iexists f
  isplitr; · ipureintro; rfl
  iexact Hp

/-- A store to a rectangle of a buffer, a set of its elements held that has the rectangle's. -/
theorem run_stRect {sh : Shape} (m : Memref sig .tc .vmem sh .f32) (r : Rect sh) (w : r.shape.Idx → Elt F .f32) (hx : (m.access r).Stores Finset.univ)
    (hm : (Finset.univ : Finset r.shape.Idx) = Finset.univ ∨ ∀ a, r.stride a = 1) (S : Finset (Idx (m.view.loc (c : Thread nD τ))))
    (hS : (m.access r).set ⊆ S) (f : Buf (Elt F) (m.view.loc (c : Thread nD τ))) (k : PUnit → P F α) {Q : α → sProp 𝕄} :
    (m.view.loc (c : Thread nD τ) ↦[S]{fullShare} f : sProp 𝕄)
      ⊢ iprop(((m.view.loc (c : Thread nD τ) ↦[S]{fullShare} ((m.access r).write (Elt F) f w Finset.univ)) -∗ Runs c (k ⟨⟩) Q)
        -∗ Runs c (.op (.store m r w Finset.univ hx hm) k) Q) :=
  wp_store 𝒱₀ (c : Thread nD τ) none Set.univ (m := m) (r := r) (w := w) (Mk := Finset.univ) (hx := hx) (hm := hm) (k := k) hS

theorem run_stC (v : S4x256x512.Idx → Elt F .f32) (w : FVec F S1x1x256x512 .f32) (k : PUnit → P F α) {Q : α → sProp 𝕄} :
    (holds c (piece d s q) v : sProp 𝕄) ⊢ iprop((holds c (piece d s q) (put b w v) -∗ Runs c (k ⟨⟩) Q) -∗ Runs c ((stC d s q b w).bind k) Q) := by
  have h (f) : ((piece d s q).view.loc (c : Thread nD τ) ↦[(piece d s q).view.set]{fullShare} f : sProp 𝕄)
      ⊢ iprop((((piece d s q).view.loc (c : Thread nD τ) ↦[(piece d s q).view.set]{fullShare}
          (((comm d).access (batchAt s b (512 * q.val) (inbCb s b q))).write (Elt F) f w Finset.univ)) -∗ Runs c (k ⟨⟩) Q)
        -∗ Runs c ((stC d s q b w).bind k) Q) :=
    run_stRect c (comm d) (batchAt s b (512 * q.val) (inbCb s b q)) w (View.stores_vmem_bits_univ h_S1x1x256x512 rfl) (.inl rfl) _
      (batch_subset (comm d) s b (512 * q.val) (inbC s q) (inbCb s b q)) f k
  unfold holds
  iintro ⟨%f, %hf, Hp⟩ Hk
  subst hf
  iapply (h f) $$ Hp
  iintro Hp
  iapply Hk
  iexists _
  isplitr
  · ipureintro; exact write_batch (comm d) s b (512 * q.val) (inbC s q) (inbCb s b q) f w
  iexact Hp

/-- A load of a rectangle of a buffer held whole. -/
theorem run_ldRect {sh : Shape} (m : Memref sig .tc .vmem sh .f32) (r : Rect sh) (hl : m.view.LoadsAt r.toLoadRect) (v : sh.Idx → Elt F .f32)
    (k : (r.shape.Idx → Elt F .f32) → P F α) {Q : α → sProp 𝕄} :
    (holds c m v : sProp 𝕄) ⊢ iprop((holds c m v -∗ Runs c (k fun j => v (r.emb j)) Q) -∗ Runs c (.op (.load m r.toLoadRect hl) k) Q) := by
  have h (f) : (m.view.loc (c : Thread nD τ) ↦[m.view.set]{fullShare} f : sProp 𝕄)
      ⊢ iprop(((m.view.loc (c : Thread nD τ) ↦[m.view.set]{fullShare} f) -∗ Runs c (k fun j => m.view.read (Elt F) f (r.emb j)) Q)
        -∗ Runs c (.op (.load m r.toLoadRect hl) k) Q) :=
    wp_load_rect 𝒱₀ (c : Thread nD τ) none Set.univ (m := m) (r := r) (k := k) (View.set_slice_subset _ _)
  unfold holds
  iintro ⟨%f, %hf, Hp⟩ Hk
  subst hf
  iapply (h f) $$ Hp
  iintro Hp
  iapply Hk
  iexists f
  isplitr; · ipureintro; rfl
  iexact Hp

theorem run_ldW (Y : S512x4096.Idx → Elt F .f32) (k : Vec F S512x512 .f32 → P F α) {Q : α → sProp 𝕄} :
    (holds c woM Y : sProp 𝕄) ⊢ iprop((holds c woM Y -∗ Runs c (k (cols (fun _ => Y) c d q)) Q) -∗ Runs c ((ldW d q).bind k) Q) :=
  run_ldRect c woM (Rect.unit (s := S512x4096) ![0, 2048 * d.val + 512 * q.val] S512x512.size (inbW d q)) (View.loadsAt_vmem h_S512x512) Y k

/-- Where a batch of a sub-block goes in the result. -/
abbrev outRect : Rect S4x256x4096 := Rect.unit (s := S4x256x4096) ![b.val, 0, 2048 * d.val + 512 * q.val] S1x256x512.size (inbR d b q)

theorem run_ldR (v : S4x256x4096.Idx → Elt F .f32) (k : Vec F S1x256x512 .f32 → P F α) {Q : α → sProp 𝕄} :
    (holds c outM v : sProp 𝕄) ⊢ iprop((holds c outM v -∗ Runs c (k fun j => v ((outRect d q b).emb j)) Q) -∗ Runs c ((ldR d q b).bind k) Q) :=
  run_ldRect c outM (outRect d q b) (View.loadsAt_vmem h_S1x256x512) v k

theorem read_stRect {sh : Shape} (m : Memref sig .tc .vmem sh .f32) (r : Rect sh) (f : m.view.ty.Contents (Elt F)) (w : r.shape.Idx → Elt F .f32)
    (v' : sh.Idx → Elt F .f32) (hin : ∀ j, v' (r.emb j) = w j) (hout : ∀ i, i ∉ Finset.univ.map r.emb → v' i = m.view.read (Elt F) f i) :
    m.view.read (Elt F) ((m.access r).write (Elt F) f w Finset.univ) = v' := by
  funext i
  by_cases hi : i ∈ Finset.univ.map r.emb
  · obtain ⟨j, -, rfl⟩ := Finset.mem_map.mp hi
    rw [hin j]
    exact View.read_slice_write_emb r f w (Finset.mem_univ j)
  · rw [hout i hi]
    exact View.read_slice_write_of_not_mem r f w _ hi

/-- A store to the result, at the values it makes the result read. -/
theorem run_stR (v v' : S4x256x4096.Idx → Elt F .f32) (w : FVec F S1x256x512 .f32) (k : PUnit → P F α)
    (hin : ∀ j, v' ((outRect d q b).emb j) = w j) (hout : ∀ i, i ∉ Finset.univ.map (outRect d q b).emb → v' i = v i) {Q : α → sProp 𝕄} :
    (holds c outM v : sProp 𝕄) ⊢ iprop((holds c outM v' -∗ Runs c (k ⟨⟩) Q) -∗ Runs c ((stR d q b w).bind k) Q) := by
  have h (f) : (outM.view.loc (c : Thread nD τ) ↦[outM.view.set]{fullShare} f : sProp 𝕄)
      ⊢ iprop(((outM.view.loc (c : Thread nD τ) ↦[outM.view.set]{fullShare} ((outM.access (outRect d q b)).write (Elt F) f w Finset.univ)) -∗ Runs c (k ⟨⟩) Q)
        -∗ Runs c ((stR d q b w).bind k) Q) :=
    run_stRect c outM (outRect d q b) w (View.stores_vmem_bits_univ h_S1x256x512 rfl) (.inl rfl) _ (View.set_slice_subset _ _) f k
  unfold holds
  iintro ⟨%f, %hf, Hp⟩ Hk
  subst hf
  iapply (h f) $$ Hp
  iintro Hp
  iapply Hk
  iexists _
  isplitr
  · ipureintro
    exact read_stRect outM (outRect d q b) f w v' hin hout
  iexact Hp

/-! ## The four batches -/

theorem put4 (g : Fin 4 → S1x1x256x512.Idx → Elt F .f32) (u : S4x256x512.Idx → Elt F .f32) :
    put 3 (g 3) (put 2 (g 2) (put 1 (g 1) (put 0 (g 0) u))) = fun i => g (i 0) (ofPiece i) := by
  funext i
  unfold put
  generalize ofPiece i = j
  generalize u i = x
  generalize i 0 = b
  revert b
  intro (b : Fin 4)
  fin_cases b <;> rfl

variable (Y : S512x4096.Idx → Elt F .f32)

theorem run_first1 (o u : S4x256x512.Idx → Elt F .f32) (k : PUnit → P F α) {Q : α → sProp 𝕄} :
    iprop(holds c (oPiece d) o ∗ holds c woM Y ∗ holds c (piece d 0 q) u : sProp 𝕄)
      ⊢ iprop(((holds c (oPiece d) o ∗ holds c woM Y ∗ holds c (piece d 0 q) (put b (firstV (row b o) (cols (fun _ => Y) c d q)) u)) -∗ Runs c (k ⟨⟩) Q)
        -∗ Runs c ((first1 d q b).bind k) Q) := by
  iintro ⟨Ho, Hw, Hc⟩ Hk
  iapply (run_ldO c d b o _) $$ Ho; iintro Ho
  iapply (run_ldW c d q Y _) $$ Hw; iintro Hw
  iapply (run_ldC c d 0 q b u _) $$ Hc; iintro Hc
  iapply (run_stC c d 0 q b u _ k) $$ Hc; iintro Hc
  iapply Hk
  isplitl [Ho]; · iexact Ho
  isplitl [Hw]; · iexact Hw
  iexact Hc

theorem run_acc1 (o u : S4x256x512.Idx → Elt F .f32) (k : PUnit → P F α) {Q : α → sProp 𝕄} :
    iprop(holds c (oPiece d) o ∗ holds c woM Y ∗ holds c (piece d s q) u : sProp 𝕄)
      ⊢ iprop(((holds c (oPiece d) o ∗ holds c woM Y ∗ holds c (piece d s q) (put b (accV (row b u) (row b o) (cols (fun _ => Y) c d q)) u)) -∗ Runs c (k ⟨⟩) Q)
        -∗ Runs c ((acc1 d s q b).bind k) Q) := by
  iintro ⟨Ho, Hw, Hc⟩ Hk
  iapply (run_ldC c d s q b u _) $$ Hc; iintro Hc
  iapply (run_ldO c d b o _) $$ Ho; iintro Ho
  iapply (run_ldW c d q Y _) $$ Hw; iintro Hw
  iapply (run_ldC c d s q b u _) $$ Hc; iintro Hc
  iapply (run_stC c d s q b u _ k) $$ Hc; iintro Hc
  iapply Hk
  isplitl [Ho]; · iexact Ho
  isplitl [Hw]; · iexact Hw
  iexact Hc

theorem run_out1 (o u : S4x256x512.Idx → Elt F .f32) (v v' : S4x256x4096.Idx → Elt F .f32) (k : PUnit → P F α)
    (hin : ∀ j, v' ((outRect d q b).emb j) = outV (row b u) (row b o) (cols (fun _ => Y) c d q) j)
    (hout : ∀ i, i ∉ Finset.univ.map (outRect d q b).emb → v' i = v i) {Q : α → sProp 𝕄} :
    iprop(holds c (oPiece d) o ∗ holds c woM Y ∗ holds c (piece d 1 q) u ∗ holds c outM v : sProp 𝕄)
      ⊢ iprop(((holds c (oPiece d) o ∗ holds c woM Y ∗ holds c (piece d 1 q) u ∗ holds c outM v') -∗ Runs c (k ⟨⟩) Q)
        -∗ Runs c ((out1 d q b).bind k) Q) := by
  iintro ⟨Ho, Hw, Hc, Hr⟩ Hk
  iapply (run_ldC c d 1 q b u _) $$ Hc; iintro Hc
  iapply (run_ldO c d b o _) $$ Ho; iintro Ho
  iapply (run_ldW c d q Y _) $$ Hw; iintro Hw
  iapply (run_ldR c d q b v _) $$ Hr; iintro Hr
  iapply (run_stR c d q b v v' _ k hin hout) $$ Hr; iintro Hr
  iapply Hk
  isplitl [Ho]; · iexact Ho
  isplitl [Hw]; · iexact Hw
  isplitl [Hc]; · iexact Hc
  iexact Hr

/-- The four products, stored. -/
theorem run_first (o : S4x256x512.Idx → Elt F .f32) (k : P F PUnit) {Q : PUnit → sProp 𝕄} :
    iprop(holds c (oPiece d) o ∗ holds c woM Y ∗ room c (piece d 0 q) : sProp 𝕄)
      ⊢ iprop(((holds c (oPiece d) o ∗ holds c woM Y
            ∗ holds c (piece d 0 q) fun i => firstV (row (i 0) o) (cols (fun _ => Y) c d q) (ofPiece i)) -∗ Runs c k Q)
        -∗ Runs c (each4 (first1 d q) k) Q) := by
  unfold room
  iintro ⟨Ho, Hw, ⟨%f, Hc⟩⟩ Hk
  ihave Hc := (show ((piece d 0 q).view.loc (c : Thread nD τ) ↦[(piece d 0 q).view.set]{fullShare} f : sProp 𝕄)
      ⊢ holds c (piece d 0 q) ((piece d 0 q).view.read (Elt F) f) from by
    unfold holds; iintro H; iexists f; isplitr; · ipureintro; rfl
    iexact H) $$ Hc
  iapply (run_first1 c d q 0 Y o _ _) $$ [Ho Hw Hc]
  · isplitl [Ho]; · iexact Ho
    isplitl [Hw] <;> iassumption
  iintro H
  iapply (run_first1 c d q 1 Y o _ _) $$ H; iintro H
  iapply (run_first1 c d q 2 Y o _ _) $$ H; iintro H
  iapply (run_first1 c d q 3 Y o _ _) $$ H; iintro H
  rw [put4 fun b => firstV (row b o) (cols (fun _ => Y) c d q)]
  iapply Hk; iexact H

/-- The four products, added to what is there. -/
theorem run_acc (o u : S4x256x512.Idx → Elt F .f32) (k : P F PUnit) {Q : PUnit → sProp 𝕄} :
    iprop(holds c (oPiece d) o ∗ holds c woM Y ∗ holds c (piece d s q) u : sProp 𝕄)
      ⊢ iprop(((holds c (oPiece d) o ∗ holds c woM Y
            ∗ holds c (piece d s q) fun i => accV (row (i 0) u) (row (i 0) o) (cols (fun _ => Y) c d q) (ofPiece i)) -∗ Runs c k Q)
        -∗ Runs c (each4 (acc1 d s q) k) Q) := by
  iintro H Hk
  iapply (run_acc1 c d s q 0 Y o _ _) $$ H; iintro H
  iapply (run_acc1 c d s q 1 Y o _ _) $$ H; iintro H
  iapply (run_acc1 c d s q 2 Y o _ _) $$ H; iintro H
  iapply (run_acc1 c d s q 3 Y o _ _) $$ H; iintro H
  simp only [row_put_ne (show (1 : Fin 4) ≠ 0 by decide), row_put_ne (show (2 : Fin 4) ≠ 0 by decide), row_put_ne (show (2 : Fin 4) ≠ 1 by decide),
    row_put_ne (show (3 : Fin 4) ≠ 0 by decide), row_put_ne (show (3 : Fin 4) ≠ 1 by decide), row_put_ne (show (3 : Fin 4) ≠ 2 by decide)]
  rw [put4 fun b => accV (row b u) (row b o) (cols (fun _ => Y) c d q)]
  iapply Hk; iexact H

end Cert.KernelIdeal.Ring

end
-- ==== Proof.Comm.lean ====
/-
  The body's communication steps under the schedule: waits, transfers, credits, the copies of the
  chunks and the two exchanges with the neighbours.
-/
module

public import proofs.«01_k».proof.Proof.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (X : Dev nD → (main_v1 : Ref sig .tc).ty.Contents (Elt F)) (Y : Dev nD → S512x4096.Idx → Elt F .f32)
variable (κ : GSem nD τ sig → ℕ) (ιs : Key → ℕ)

/-- The keys of the releases. -/
abbrev keys : Finset Key := Finset.univ ×ˢ (Finset.univ ×ˢ Finset.range 24)

/-- The invariants of all cells and slots, and the order of the waits. -/
def Recs : sProp 𝕄 :=
  iprop((bigSep Finset.univ fun x : Dev nD × Cl => cellInv ER (Rd X Y) (κ (cell x.1 x.2)) (cell x.1 x.2))
    ∗ (bigSep keys fun x : Key => slotInv ES (ιs x) x (handed x)) ∗ levAts L lv)
instance : BI.Persistent (Recs X Y κ ιs : sProp 𝕄) := by unfold Recs; infer_instance

theorem Recs_cell (c : Dev nD) (cl : Cl) : (Recs X Y κ ιs : sProp 𝕄) ⊢ cellInv ER (Rd X Y) (κ (cell c cl)) (cell c cl) := by
  classical
  have h : (bigSep Finset.univ fun x : Dev nD × Cl => (cellInv ER (Rd X Y) (κ (cell x.1 x.2)) (cell x.1 x.2) : sProp 𝕄))
      ⊢ cellInv ER (Rd X Y) (κ (cell c cl)) (cell c cl) := bigSep_elim (Finset.mem_univ ((c, cl) : Dev nD × Cl))
  unfold Recs
  iintro ⟨H, -, -⟩
  iapply h; iexact H
theorem Recs_slot (c : Dev nD) (d : Fin 2) {n : ℕ} (hn : n < 24) :
    (Recs X Y κ ιs : sProp 𝕄) ⊢ slotInv ES (ιs (c, d, n)) (c, d, n) (handed (c, d, n)) := by
  classical
  have h : (bigSep keys fun x : Key => (slotInv ES (ιs x) x (handed x) : sProp 𝕄)) ⊢ slotInv ES (ιs (c, d, n)) (c, d, n) (handed (c, d, n)) :=
    bigSep_elim (s := keys) (i := ((c, d, n) : Key))
      (Finset.mem_product.mpr ⟨Finset.mem_univ _, Finset.mem_product.mpr ⟨Finset.mem_univ _, Finset.mem_range.mpr hn⟩⟩)
  unfold Recs
  iintro ⟨-, H, -⟩
  iapply h; iexact H
theorem Recs_lev : (Recs X Y κ ιs : sProp 𝕄) ⊢ levAts L lv := by
  unfold Recs
  iintro ⟨-, -, H⟩
  iexact H

/-- What device `c` owes, after whatever waits. -/
def Ow (c : Dev nD) (O : CellTallies nD τ sig ℕ) : sProp 𝕄 := iprop(∃ W, owes (c : Thread nD τ) O W)
/-- The owner of a cell at the start of round `r`. -/
def At (c : Dev nD) (cl : Cl) (r : ℕ) : sProp 𝕄 := iprop(atPos ER (cell c cl) r ∅ 0 ∗ reached ER (cell c cl) r)
/-- A duty's token. -/
abbrev Tok (c : Dev nD) (cl : Cl) (r i : ℕ) : sProp 𝕄 := dutyTok ER (cell c cl) r i

variable (c : Dev nD)

/-- A wait for a round's one payment. -/
theorem run_wait (cl : Cl) (r i : ℕ) (hd : duties cl r = {0}) (hi : i < 64) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (semOf cl) (amount cl) K)
    {O : CellTallies nD τ sig ℕ} (hO : ∀ g u, 0 < O g u → u ∈ L g ∧ lvCl cl i < lv g u) (k : PUnit → P F PUnit) {Q : PUnit → sProp 𝕄} :
    iprop(Recs X Y κ ιs ∗ cred (tallyAt (cell c cl) i (amount cl)) ∗ Ow c O ∗ At c cl r)
      ⊢ iprop(((Ow c O ∗ At c cl (r + 1) ∗ payload X Y c cl r 0) -∗ Runs c (k ⟨⟩) Q) -∗ Runs c (.op w k) Q) := by
  unfold Ow At
  iintro ⟨#HR, Hcr, ⟨%W, HO⟩, ⟨Hat, -⟩⟩ Hk
  iapply (Rounds.wp_wait_rest_token 𝒱₀ ER (Rd X Y) (c : Thread nD τ) none (κ := κ (cell c cl)) hw (Set.mem_univ _) i (O := O) (W := W) (R := r) (m := 0) (T := ∅)
      (Rd_expect_one X Y c cl r hd)) $$ [Hcr HO Hat]
  · isplitr; · iapply (Recs_cell X Y κ ιs c cl); iexact HR
    isplitl [Hcr]; · iexact Hcr
    isplitl [HO]; · iexact HO
    isplitr; · iapply (mayWait c cl i hi hO); iapply (Recs_lev X Y κ ιs); iexact HR
    iexact Hat
  iintro ⟨HO, Hat, Hr, Hpay⟩
  ihave Hp := (Entails.of_eq (Rd_rest X Y c cl r hd)) $$ Hpay
  iapply Hk
  isplitl [HO]; · iexists _; iexact HO
  isplitl [Hat Hr]; · isplitl [Hat] <;> iassumption
  iexact Hp

/-! ## Transfers -/

variable (d : Fin 2) (q : Fin 4) (t : ℕ)

theorem dirOf_num : dirOf (num t q d) = d := Fin.ext (by show (8 * t + (2 * q.val + d.val)) % 2 = d.val; omega)
theorem num_div : num t q d / 8 = t := by unfold num; omega
theorem subOf_num : subOf (num t q d / 2) = q := Fin.ext (by show (8 * t + (2 * q.val + d.val)) / 2 % 4 = q.val; omega)
theorem num_lt {t : ℕ} (h : t < 7) : num t q d < 56 := by unfold num; omega
theorem num_lt' {t : ℕ} (h : t < 6) : num t q d < 48 := by unfold num; omega

theorem owesT_num : owesT (num t q d) c = tallyAt (cell (toD d c) (.recv d (other (sl t)) q)) (num t q d) (amount (.recv d (other (sl t)) q)) := by
  unfold owesT
  rw [dirOf_num, num_div, subOf_num]
theorem owesC_num : owesC (num t q d) c = tallyAt (cell (fromD d c) (.credit d)) (num t q d) 1 := by
  unfold owesC
  rw [dirOf_num]

theorem duties_send {t : ℕ} (h : t < 7) : duties (.send d (sl t) q) (t / 2) = {0} := if_pos (by rw [kS_sl]; exact h)
theorem duties_recv {t : ℕ} (h : t < 7) : duties (.recv d (other (sl t)) q) (t / 2) = {0} := if_pos (by rw [kR_sl]; exact h)
theorem amount_piece (s s' : Fin 2) : (piece d s q).view.dmaCredit = (piece d s' q).view.dmaCredit := by
  fin_cases d <;> rfl

theorem run_waitSend (h : t < 7) {O : CellTallies nD τ sig ℕ} (hO : ∀ g u, 0 < O g u → u ∈ L g ∧ 0 < lv g u) (k : PUnit → P F PUnit) {Q : PUnit → sProp 𝕄} :
    iprop(Recs X Y κ ιs ∗ cred (tallyAt (cell c (.send d (sl t) q)) 0 (amount (.send d (sl t) q))) ∗ Ow c O ∗ At c (.send d (sl t) q) (t / 2))
      ⊢ iprop(((Ow c O ∗ At c (.send d (sl t) q) (t / 2 + 1) ∗ room c (piece d (sl t) q)) -∗ Runs c (k ⟨⟩) Q)
        -∗ Runs c ((waitSend d (sl t) q).bind k) Q) :=
  run_wait X Y κ ιs c (.send d (sl t) q) (t / 2) 0 (duties_send d q h) (by decide) (wpE_waitDma2_eq 𝒱₀ (c : Thread nD τ) none Set.univ) hO k

theorem run_waitRecv (h : t < 7) {O : CellTallies nD τ sig ℕ} (hO : ∀ g u, 0 < O g u → u ∈ L g ∧ 2 * num t q d + 2 < lv g u) (k : PUnit → P F PUnit)
    {Q : PUnit → sProp 𝕄} :
    iprop(Recs X Y κ ιs ∗ cred (tallyAt (cell c (.recv d (other (sl t)) q)) (num t q d) (amount (.recv d (other (sl t)) q))) ∗ Ow c O
        ∗ At c (.recv d (other (sl t)) q) (t / 2))
      ⊢ iprop(((Ow c O ∗ At c (.recv d (other (sl t)) q) (t / 2 + 1) ∗ holds c (piece d (other (sl t)) q) (sent X Y t (fromD d c) d q)) -∗ Runs c (k ⟨⟩) Q)
        -∗ Runs c ((waitRecv d (other (sl t)) q).bind k) Q) := by
  have hk := run_wait X Y κ ιs c (.recv d (other (sl t)) q) (t / 2) (num t q d) (duties_recv d q h) (by have := num_lt d q h; omega)
    (wpE_waitDma2_eq (src := piece d (other (other (sl t))) q) (dst := piece d (other (sl t)) q) (hsrc := (View.wordExact_bits rfl).reshape _ _)
      (hdst := (View.wordExact_bits rfl).reshape _ _) 𝒱₀ (c : Thread nD τ) none Set.univ) hO k (Q := Q)
  rw [show payload X Y c (.recv d (other (sl t)) q) (t / 2) 0 = holds c (piece d (other (sl t)) q) (sent X Y t (fromD d c) d q) from by
    show holds c (piece d (other (sl t)) q) (sent X Y (kR (other (sl t)) (t / 2)) (fromD d c) d q) = _
    rw [kR_sl]] at hk
  exact hk

theorem run_send (h : t < 7) (b : ℕ) (k : PUnit → P F PUnit) {Q : PUnit → sProp 𝕄} :
    iprop(Recs X Y κ ιs ∗ holds c (piece d (sl t) q) (sent X Y t c d q) ∗ landing (toD d c) d (other (sl t)) q (t / 2)
        ∗ reached ER (cell c (.send d (sl t) q)) (t / 2) ∗ Tok c (.send d (sl t) q) (t / 2) 0 ∗ Tok (toD d c) (.recv d (other (sl t)) q) (t / 2) 0
        ∗ Ow c (due (num t q d) b c))
      ⊢ iprop(((cred (tallyAt (cell c (.send d (sl t) q)) 0 (amount (.send d (sl t) q))) ∗ Ow c (due (num t q d + 1) b c)) -∗ Runs c (k ⟨⟩) Q)
        -∗ Runs c ((send c d (sl t) q).bind k) Q) := by
  unfold holds landing room Ow
  iintro ⟨#HR, ⟨%fs, %hfs, Hs⟩, ⟨⟨%fd, Hd⟩, #Hr2⟩, #Hr1, Ht1, Ht2, ⟨%W, HO⟩⟩ Hk
  iapply (Rounds.wp_send_pointsTo 𝒱₀ ER (Rd X Y) (c : Thread nD τ) none (c' := (toD d c : Thread nD τ)) (src := piece d (sl t) q) (dst := piece d (other (sl t)) q)
      (sS := .dma (sendCell d (sl t) q)) (sem := .dma (recvCell d (other (sl t)) q)) (q := fullShare) (fs := fs) (fd := fd)
      (κ₁ := κ (cell c (.send d (sl t) q))) (κ₂ := κ (cell (toD d c) (.recv d (other (sl t)) q)))
      (r₁ := t / 2) (r₂ := t / 2) (d₁ := 0) (d₂ := 0) (k := k)
      (Rd_mem X Y c (.send d (sl t) q) (t / 2) 0 (by rw [duties_send d q h]; exact Finset.mem_singleton_self _))
      (Rd_mem X Y (toD d c) (.recv d (other (sl t)) q) (t / 2) 0 (by rw [duties_recv d q h]; exact Finset.mem_singleton_self _))
      (num t q d) 0 (amount (.recv d (other (sl t)) q)) rfl
      ((Rd_amount X Y c (.send d (sl t) q) (t / 2) 0).trans (amount_piece d q (sl t) (other (sl t))))
      (Rd_amount X Y (toD d c) (.recv d (other (sl t)) q) (t / 2) 0)
      (due (num t q d + 1) b c) ((due_send (num_lt d q h) c).trans (congrArg (due (num t q d + 1) b c + ·) (owesT_num c d q t))) (W := W)
      (Rd_pays X Y c (.send d (sl t) q) (t / 2) 0 <| by
        show _ ⊢ room c (piece d (sl t) q)
        unfold room; iintro H; iexists fs; iexact H)
      (Rd_pays X Y (toD d c) (.recv d (other (sl t)) q) (t / 2) 0 <| by
        show _ ⊢ holds (toD d c) (piece d (other (sl t)) q) (sent X Y (kR (other (sl t)) (t / 2)) (fromD d (toD d c)) d q)
        rw [kR_sl, from_to, ← hfs]
        unfold holds; iintro H
        iexists (piece d (other (sl t)) q).view.write (Elt F) fd ((piece d (sl t) q).view.read (Elt F) fs) Finset.univ
        isplitr
        · ipureintro; exact View.read_write_univ _ _
        iexact H)) $$ [Hs Hd HO Ht1 Ht2]
  · isplitr; · iapply (Recs_cell X Y κ ιs c (.send d (sl t) q)); iexact HR
    isplitr; · iapply (Recs_cell X Y κ ιs (toD d c) (.recv d (other (sl t)) q)); iexact HR
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]
  · rw [show amount (.send d (sl t) q) = amount (.recv d (other (sl t)) q) from amount_piece d q (sl t) (other (sl t))]
    iexact Hc
  iexists W; iexact HO

/-! ## Credits -/

/-- The slots of a direction released before credit `n`. -/
def left' (n : ℕ) : sProp 𝕄 := bigSep (Finset.range n) fun i => released ES ((c, d, i) : Key) 1
instance (n : ℕ) : BI.Persistent (left' (F := F) c d n) := by unfold left'; infer_instance

theorem left'_zero : (emp : sProp 𝕄) ⊢ left' c d 0 := by
  unfold left'; rw [Finset.range_zero, bigSep_empty]; iintro -; iempintro
theorem left'_succ (n : ℕ) : iprop(left' c d n ∗ released ES ((c, d, n) : Key) 1) ⊢ (left' c d (n + 1) : sProp 𝕄) := by
  unfold left'
  rw [Finset.range_add_one]
  have h : (bigSep (insert n (Finset.range n)) fun i => (released ES ((c, d, i) : Key) 1 : sProp 𝕄))
      = iprop(released ES ((c, d, n) : Key) 1 ∗ bigSep (Finset.range n) fun i => released ES ((c, d, i) : Key) 1) :=
    bigSep_insert Finset.notMem_range_self
  rw [h]
  iintro ⟨H1, H2⟩
  isplitl [H2] <;> iassumption

theorem handed_num : (handed (c, d, 4 * t + q.val) : sProp 𝕄) = landing c d (sl t) q ((t + 1) / 2) := by
  unfold handed
  dsimp only
  rw [show (4 * t + q.val) / 4 = t by omega, show subOf (4 * t + q.val) = q from Fin.ext (by show (4 * t + q.val) % 4 = q.val; omega)]

theorem handed_false (x : Key) : iprop(handed x ∗ handed x) ⊢ (False : sProp 𝕄) := by
  unfold handed landing room
  iintro ⟨⟨H1, -⟩, ⟨H2, -⟩⟩
  iapply (slot_slot_false (ℓ := (piece x.2.1 (sl (x.2.2 / 4)) (subOf x.2.2)).view.loc (x.1 : Thread nD τ))
    (I := (piece x.2.1 (sl (x.2.2 / 4)) (subOf x.2.2)).view.set) ⟨_, View.emb_mem_set _ (fun a => ⟨0, by revert a; decide⟩)⟩)
  unfold slot
  isplitl [H1] <;> iassumption

theorem duties_credit (n : ℕ) (h : n < 24) : n ∈ duties (.credit d) 0 := Finset.mem_range.mpr h

/-- Releasing the slot transfer `t` was sent from, and telling the device it came from. -/
theorem run_release (h : t < 6) (a : ℕ) (k : PUnit → P F PUnit) {Q : PUnit → sProp 𝕄} :
    iprop(Recs X Y κ ιs ∗ readerAt ES ((c, d, 4 * t + q.val) : Key) 0 ∗ landing c d (sl t) q ((t + 1) / 2) ∗ left' c d (4 * t + q.val)
        ∗ Tok (fromD d c) (.credit d) 0 (4 * t + q.val) ∗ met c d ∗ Ow c (due a (num t q d) c))
      ⊢ iprop(((left' c d (4 * t + q.val + 1) ∗ Ow c (due a (num t q d + 1) c)) -∗ Runs c (k ⟨⟩) Q)
        -∗ Runs c ((semSignalWord (fromD d c) (creditS d) 1#32).bind k) Q) := by
  unfold met Ow
  iintro ⟨#HR, Hrd, Hl, #Hleft, Ht, ⟨#Hr, -⟩, ⟨%W, HO⟩⟩ Hk
  imod (slot_release ES (Set.mem_univ (ιs (c, d, 4 * t + q.val))) (handed_false (F := F) (c, d, 4 * t + q.val)) 0) $$ [Hrd Hl] with ⟨-, #Hrel⟩
  · isplitr; · iapply (Recs_slot X Y κ ιs c d (show 4 * t + q.val < 24 by omega)); iexact HR
    isplitl [Hrd]; · iexact Hrd
    rw [handed_num]; iexact Hl
  ihave #Hnew := (left'_succ (F := F) c d (4 * t + q.val)) $$ []
  · isplitr; · iexact Hleft
    iexact Hrel
  have hpay : (left' c d (4 * t + q.val + 1) : sProp 𝕄) ⊢ (Rd X Y).payload ((fromD d c : Thread nD τ), SemLoc.reg (creditS d)) 0 (4 * t + q.val) :=
    Rd_pays X Y (fromD d c) (.credit d) 0 (4 * t + q.val) (by
      show _ ⊢ told (toD d (fromD d c)) d (4 * t + q.val)
      rw [to_from]; exact .rfl)
  iapply (Rounds.wp_signal 𝒱₀ ER (Rd X Y) (c : Thread nD τ) none (dst := (fromD d c : Thread nD τ)) (sem := creditS d) (r := 0) (d := 4 * t + q.val)
      (k := k) (k' := 1) (κ := κ (cell (fromD d c) (.credit d)))
      (Rd_mem X Y (fromD d c) (.credit d) 0 _ (duties_credit d _ (by omega))) (Rd_amount X Y (fromD d c) (.credit d) 0 _) (num t q d)
      (due a (num t q d + 1) c) ((due_credit (num_lt' d q h) c).trans (congrArg (due a (num t q d + 1) c + ·) (owesC_num c d q t))) (W := W))
    $$ [HO Ht]
  · isplitr; · iapply (Recs_cell X Y κ ιs (fromD d c) (.credit d)); iexact HR
    isplitl [HO]; · iexact HO
    isplitl [Ht]; · iexact Ht
    isplitr
    · iapply hpay; iexact Hnew
    iexact Hr
  iintro HO
  iapply Hk
  isplitr; · iexact Hnew
  iexists W; iexact HO

/-- The owner of a credit cell after `m` waits: what it has been told. -/
def Cr (m : ℕ) : sProp 𝕄 :=
  iprop(∃ T : Finset ℕ, ⌜T ⊆ Finset.range 24 ∧ m + (Finset.range 24 \ T).card ≤ 24⌝ ∗ atPos ER (cell c (.credit d)) 0 T m
    ∗ bigSep T fun i => told (toD d c) d i)

theorem told_elim {n i : ℕ} (h : n ≤ i) : (told c d i : sProp 𝕄) ⊢ released ES ((c, d, n) : Key) 1 := by
  unfold told
  exact bigSep_elim (Finset.mem_range.mpr (by omega))

/-- Whatever `m + 1` credits have been taken, one of them tells of release `m`. -/
theorem exists_late {S : Finset ℕ} {m : ℕ} (hS : S ⊆ Finset.range 24) (h : m + 1 + (Finset.range 24 \ S).card ≤ 24) : ∃ i ∈ S, m ≤ i := by
  by_contra hn
  push Not at hn
  have h1 : S ⊆ Finset.range m := fun i hi => Finset.mem_range.mpr (hn i hi)
  have h2 := Finset.card_le_card h1
  have h3 := Finset.card_sdiff_add_card_eq_card hS
  rw [Finset.card_range] at h2 h3
  omega

/-- Waiting for a credit: the next device's slot is free. -/
theorem run_credit (h : t < 6) {O : CellTallies nD τ sig ℕ} (hO : ∀ g u, 0 < O g u → u ∈ L g ∧ 2 * num t q d + 3 < lv g u) (k : PUnit → P F PUnit)
    {Q : PUnit → sProp 𝕄} :
    iprop(Recs X Y κ ιs ∗ cred (tallyAt (cell c (.credit d)) (num t q d) 1) ∗ Cr c d (4 * t + q.val) ∗ writeTok ES ((toD d c, d, 4 * t + q.val) : Key) 1 ∗ Ow c O)
      ⊢ iprop(((Cr c d (4 * t + q.val + 1) ∗ landing (toD d c) d (sl t) q ((t + 1) / 2) ∗ Ow c O) -∗ Runs c (k ⟨⟩) Q)
        -∗ Runs c ((semWaitWord (creditS d) 1#32).bind k) Q) := by
  unfold Cr Ow
  iintro ⟨#HR, Hcr, ⟨%T, %hT, Hat, #Htold⟩, Hw, ⟨%W, HO⟩⟩ Hk
  iapply (Rounds.wp_wait 𝒱₀ ER (Rd X Y) (c : Thread nD τ) none (κ := κ (cell c (.credit d))) (wpE_semWait_eq 𝒱₀ (c : Thread nD τ) none Set.univ) (Set.mem_univ _)
      (k := k) (k' := 1) (cr := Finsupp.single (num t q d) 1) (O := O) (W := W) {(.reg (creditS d), num t q d)} (R := 0) (m := 4 * t + q.val) (T := T)
      (by rw [Util.total_single]) (image_single_subset _ _ _)) $$ [Hcr HO Hat]
  · isplitr; · iapply (Recs_cell X Y κ ιs c (.credit d)); iexact HR
    isplitl [Hcr]; · iexact Hcr
    isplitl [HO]; · iexact HO
    isplitr; · iapply (mayWait c (.credit d) (num t q d) (by have := num_lt' d q h; omega) hO); iapply (Recs_lev X Y κ ιs); iexact HR
    iexact Hat
  iintro %S ⟨%hS, HO, Hat, Hpay⟩
  obtain ⟨hTS, hSd, hcard⟩ := hS
  have hd0 : (Rd X Y).duties ((c : Thread nD τ), SemLoc.reg (creditS d)) 0 = Finset.range 24 := Rd_duties X Y c (.credit d) 0
  have he : (Rd X Y).expect ((c : Thread nD τ), SemLoc.reg (creditS d)) 0 = 24 := (Rd_expect X Y c (.credit d) 0).trans (by
    show (Finset.range 24).card * 1 = 24
    rw [Finset.card_range])
  rw [hd0] at hSd hcard
  rw [he] at hcard
  have hpay : (bigSep (S \ T) fun i => (Rd X Y).payload ((c : Thread nD τ), SemLoc.reg (creditS d)) 0 i) ⊢ (bigSep (S \ T) fun i => told (toD d c) d i : sProp 𝕄) :=
    Entails.of_eq (bigSep_congr fun i _ => Rd_payload X Y c (.credit d) 0 i)
  ihave #Hnew := hpay $$ Hpay
  have hall : iprop((bigSep T fun i => told (toD d c) d i) ∗ bigSep (S \ T) fun i => told (toD d c) d i) ⊢ (bigSep S fun i => told (toD d c) d i : sProp 𝕄) :=
    Entails.of_eq (bigSep_sdiff_split hTS).symm
  ihave #Hall := hall $$ []
  · isplitr; · iexact Htold
    iexact Hnew
  obtain ⟨i, hi, hmi⟩ := exists_late hSd hcard
  have hel : (bigSep S fun i => (told (toD d c) d i : sProp 𝕄)) ⊢ released ES ((toD d c, d, 4 * t + q.val) : Key) 1 :=
    (show (bigSep S fun i => (told (toD d c) d i : sProp 𝕄)) ⊢ told (toD d c) d i from bigSep_elim hi).trans (told_elim (toD d c) d hmi)
  imod (slot_take ES (Set.mem_univ (ιs (toD d c, d, 4 * t + q.val))) (k := (toD d c, d, 4 * t + q.val)) (S := handed (toD d c, d, 4 * t + q.val)) 1) $$ [Hw] with Hl
  · isplitr; · iapply (Recs_slot X Y κ ιs (toD d c) d (show 4 * t + q.val < 24 by omega)); iexact HR
    isplitr; · iapply hel; iexact Hall
    iexact Hw
  ihave Hl := (Entails.of_eq (handed_num (toD d c) d q t)) $$ Hl
  iapply Hk
  isplitl [Hat]
  · iexists S
    isplitr; · ipureintro; exact ⟨hSd, hcard⟩
    isplitl [Hat]; · iexact Hat
    iexact Hall
  isplitl [Hl]; · iexact Hl
  iexists _; iexact HO

/-- After its last wait a credit cell's owner leaves the round. -/
theorem cell_advance : iprop(Recs X Y κ ιs ∗ Cr c d 24) ⊢ (|={Set.univ}=> atPos ER (cell c (.credit d)) 1 ∅ 0 : sProp 𝕄) := by
  unfold Cr
  iintro ⟨#HR, ⟨%T, %hT, Hat, -⟩⟩
  have hT' : Finset.range 24 ⊆ T := by
    have h := Finset.card_eq_zero.mp (show (Finset.range 24 \ T).card = 0 by omega)
    exact Finset.sdiff_eq_empty_iff_subset.mp h
  have hb : iprop(Recs X Y κ ιs) ⊢ (|={Set.univ, Set.univ \ {κ (cell c (.credit d))}}=> ((Rounds.body ER (Rd X Y) (cell c (.credit d)))
      ∗ ((Rounds.body ER (Rd X Y) (cell c (.credit d))) -∗ |={Set.univ \ {κ (cell c (.credit d))}, Set.univ}=> emp)) : sProp 𝕄) :=
    (Recs_cell X Y κ ιs c (.credit d)).trans (Rounds.body_acc ER (Rd X Y) (Set.mem_univ _))
  imod hb $$ HR with ⟨Hb, Hclose⟩
  unfold Rounds.body
  icases Hb with (⟨%v, Hv, Hst⟩ | Hcl | Hdm)
  rotate_left
  · iexfalso; iapply (Rounds.closed_atPos_false ER (Rd X Y)); isplitl [Hcl] <;> iassumption
  · iexfalso; iapply (Rounds.dormant_atPos_false ER (Rd X Y)); isplitl [Hdm] <;> iassumption
  imod (Rounds.roundState_advance ER (Rd X Y) (g := cell c (.credit d)) (R := 0) (T := T) (m := 24) (by rw [Rd_duties]; exact hT') (by
    rw [Rd_expect]; show 24 = (Finset.range 24).card * 1; rw [Finset.card_range])) $$ [Hst Hat] with ⟨Hst, Hat, -⟩
  · isplitl [Hst] <;> iassumption
  ihave Hc := Hclose $$ [Hv Hst]
  · ileft
    iexists v
    isplitl [Hv] <;> iassumption
  imod Hc
  imodintro
  iexact Hat

/-! ## Chunks -/

theorem duties_copy (j : ℕ) (h : j < 8) : duties (.copy d) j = {0} := by
  show (if j < 8 then ({0} : Finset ℕ) else ∅) = _
  rw [if_pos h]

theorem operand_split (S : Finset (Idx (oM.view.loc (c : Thread nD τ)))) :
    (operand X c d Finset.univ : sProp 𝕄) ⊣⊢ iprop(operand X c d S ∗ operand X c d (Finset.univ \ S)) :=
  pointsTo_split_subset (Finset.subset_univ S)

/-- Starting the copy of chunk `j`. -/
theorem run_get (j : ℕ) (h : j < 8) (k : PUnit → P F PUnit) {Q : PUnit → sProp 𝕄} :
    iprop(Recs X Y κ ιs ∗ reached ER (cell c (.copy d)) j ∗ Tok c (.copy d) j 0 ∗ room c (oPiece d) ∗ operand X c d (src c d j).view.set)
      ⊢ iprop((cred (tallyAt (cell c (.copy d)) 0 (amount (.copy d))) -∗ Runs c (k ⟨⟩) Q)
        -∗ Runs c ((getO d (srcOff c d j) (inb_srcOff c d j)).bind k) Q) := by
  unfold room operand
  iintro ⟨#HR, #Hr, Ht, ⟨%fd, Hd⟩, Hs⟩ Hk
  iapply (Rounds.wp_copy_pointsTo 𝒱₀ ER (Rd X Y) (c : Thread nD τ) none (src := src c d j) (dst := oPiece d) (sem := .dma (oCell d)) (q := shareOf d) (fs := X c)
      (fd := fd) (r := j) (d := 0) (κ := κ (cell c (.copy d))) (k := k)
      (Rd_mem X Y c (.copy d) j 0 (by rw [duties_copy d j h]; exact Finset.mem_singleton_self _)) 0 (amount (.copy d)) rfl
      (Rd_amount X Y c (.copy d) j 0)
      (Rd_pays X Y c (.copy d) j 0 <| by
        show _ ⊢ copied X c d j
        unfold copied holds chunk operand
        iintro ⟨H1, H2⟩
        isplitl [H1]
        · iexists (oPiece d).view.write (Elt F) fd ((src c d j).view.read (Elt F) (X c)) Finset.univ
          isplitr
          · ipureintro; exact View.read_write_univ _ _
          iexact H1
        iexact H2)) $$ [Ht Hd Hs]
  · isplitr; · iapply (Recs_cell X Y κ ιs c (.copy d)); iexact HR
    isplitl [Hs]; · iexact Hs
    isplitl [Hd]; · iexact Hd
    isplitl [Ht]; · iexact Ht
    iexact Hr
  iexact Hk

/-- Waiting for it. -/
theorem run_got (j : ℕ) (h : j < 8) {O : CellTallies nD τ sig ℕ} (hO : ∀ g u, 0 < O g u → u ∈ L g ∧ 0 < lv g u) (k : PUnit → P F PUnit)
    {Q : PUnit → sProp 𝕄} :
    iprop(Recs X Y κ ιs ∗ cred (tallyAt (cell c (.copy d)) 0 (amount (.copy d))) ∗ Ow c O ∗ At c (.copy d) j)
      ⊢ iprop(((Ow c O ∗ At c (.copy d) (j + 1) ∗ copied X c d j) -∗ Runs c (k ⟨⟩) Q)
        -∗ Runs c ((waitO d (srcOff c d j) (inb_srcOff c d j)).bind k) Q) :=
  run_wait X Y κ ιs c (.copy d) j 0 (duties_copy d j h) (by omega)
    (wpE_waitDma2_eq (src := src c d j) (dst := oPiece d) (hsrc := View.wordExact_bits rfl) (hdst := (View.wordExact_bits rfl).reshape _ _)
      𝒱₀ (c : Thread nD τ) none Set.univ) hO k (Q := Q)

/-- A direction's copies before chunk `j`. -/
def Ob (j : ℕ) : sProp 𝕄 :=
  iprop(At c (.copy d) j ∗ room c (oPiece d) ∗ operand X c d Finset.univ ∗ bigSep (Finset.Ico j 8) fun i => Tok c (.copy d) i 0)
/-- And after it, the chunk still in the buffer. -/
def Oc (j : ℕ) : sProp 𝕄 :=
  iprop(At c (.copy d) (j + 1) ∗ holds c (oPiece d) (chunk X c d j) ∗ operand X c d Finset.univ ∗ bigSep (Finset.Ico (j + 1) 8) fun i => Tok c (.copy d) i 0)

theorem Oc_Ob (j : ℕ) : (Oc X c d j : sProp 𝕄) ⊢ Ob X c d (j + 1) := by
  unfold Oc Ob
  iintro ⟨H1, H2, H3⟩
  isplitl [H1]; · iexact H1
  isplitl [H2]; · iapply (holds_room (F := F) c (oPiece d)); iexact H2
  iexact H3

theorem Ico_head (j n : ℕ) (h : j < n) (Φ : ℕ → sProp 𝕄) : bigSep (Finset.Ico j n) Φ = iprop(Φ j ∗ bigSep (Finset.Ico (j + 1) n) Φ) := by
  have h1 : Finset.Ico j n = insert j (Finset.Ico (j + 1) n) := by
    ext x; simp only [Finset.mem_Ico, Finset.mem_insert]; omega
  rw [h1]
  exact bigSep_insert (by simp)

/-- Both directions' chunks `j`: the two copies are under way together. -/
theorem run_load (j : ℕ) (h : j < 8) {O : CellTallies nD τ sig ℕ} (hO : ∀ g u, 0 < O g u → u ∈ L g ∧ 0 < lv g u) (k : P F PUnit)
    {Q : PUnit → sProp 𝕄} :
    iprop(Recs X Y κ ιs ∗ Ob X c 0 j ∗ Ob X c 1 j ∗ Ow c O)
      ⊢ iprop(((Oc X c 0 j ∗ Oc X c 1 j ∗ Ow c O) -∗ Runs c k Q)
        -∗ Runs c ((getO 0 (srcOff c 0 j) (inb_srcOff c 0 j)).bind fun _ => (getO 1 (srcOff c 1 j) (inb_srcOff c 1 j)).bind fun _ =>
          (waitO 0 (srcOff c 0 j) (inb_srcOff c 0 j)).bind fun _ => (waitO 1 (srcOff c 1 j) (inb_srcOff c 1 j)).bind fun _ => k) Q) := by
  unfold Ob Oc At
  rw [Ico_head j 8 h, Ico_head j 8 h]
  iintro ⟨#HR, ⟨⟨Ha0, #Hr0⟩, Hb0, Hs0, Ht0, HT0⟩, ⟨⟨Ha1, #Hr1⟩, Hb1, Hs1, Ht1, HT1⟩, HO⟩ Hk
  ihave Hs0 := (operand_split X c 0 (src c 0 j).view.set).1 $$ Hs0
  icases Hs0 with ⟨Hs0, Hx0⟩
  ihave Hs1 := (operand_split X c 1 (src c 1 j).view.set).1 $$ Hs1
  icases Hs1 with ⟨Hs1, Hx1⟩
  iapply (run_get X Y κ ιs c 0 j h _) $$ [Ht0 Hb0 Hs0]
  · isplitr; · iexact HR
    isplitr; · iexact Hr0
    isplitl [Ht0]; · iexact Ht0
    isplitl [Hb0] <;> iassumption
  iintro Hc0
  iapply (run_get X Y κ ιs c 1 j h _) $$ [Ht1 Hb1 Hs1]
  · isplitr; · iexact HR
    isplitr; · iexact Hr1
    isplitl [Ht1]; · iexact Ht1
    isplitl [Hb1] <;> iassumption
  iintro Hc1
  have hg := run_got X Y κ ιs c 0 j h hO (Q := Q)
  unfold At at hg
  iapply (hg _) $$ [Hc0 HO Ha0]
  · isplitr; · iexact HR
    isplitl [Hc0]; · iexact Hc0
    isplitl [HO]; · iexact HO
    isplitl [Ha0]; · iexact Ha0
    iexact Hr0
  iintro ⟨HO, Ha0, Hp0⟩
  have hg := run_got X Y κ ιs c 1 j h hO (Q := Q)
  unfold At at hg
  iapply (hg _) $$ [Hc1 HO Ha1]
  · isplitr; · iexact HR
    isplitl [Hc1]; · iexact Hc1
    isplitl [HO]; · iexact HO
    isplitl [Ha1]; · iexact Ha1
    iexact Hr1
  iintro ⟨HO, Ha1, Hp1⟩
  unfold copied
  icases Hp0 with ⟨Hh0, Hs0⟩
  icases Hp1 with ⟨Hh1, Hs1⟩
  iapply Hk
  isplitl [Ha0 Hh0 Hs0 Hx0 HT0]
  · isplitl [Ha0]; · iexact Ha0
    isplitl [Hh0]; · iexact Hh0
    isplitl [Hs0 Hx0]; · iapply (operand_split X c 0 (src c 0 j).view.set).2; isplitl [Hs0] <;> iassumption
    iexact HT0
  isplitl [Ha1 Hh1 Hs1 Hx1 HT1]
  · isplitl [Ha1]; · iexact Ha1
    isplitl [Hh1]; · iexact Hh1
    isplitl [Hs1 Hx1]; · iapply (operand_split X c 1 (src c 1 j).view.set).2; isplitl [Hs1] <;> iassumption
    iexact HT1
  iexact HO

theorem srcOff_succ (t : Fin 7) : srcOff c d (t.val + 1) = offT d t c := dif_pos t.isLt

theorem load_congr {f f' g g' : Fin 3 → ℕ} (hf : f = f') (hg : g = g') (h1 h1' h2 h2') (k : P F PUnit) :
    ((getO 0 f h1).bind fun _ => (getO 1 g h2).bind fun _ => (waitO 0 f h1).bind fun _ => (waitO 1 g h2).bind fun _ => k)
      = ((getO 0 f' h1').bind fun _ => (getO 1 g' h2').bind fun _ => (waitO 0 f' h1').bind fun _ => (waitO 1 g' h2').bind fun _ => k) := by
  subst hf hg; rfl

theorem run_load0 {O : CellTallies nD τ sig ℕ} (hO : ∀ g u, 0 < O g u → u ∈ L g ∧ 0 < lv g u) (k : P F PUnit) {Q : PUnit → sProp 𝕄} :
    iprop(Recs X Y κ ιs ∗ Ob X c 0 0 ∗ Ob X c 1 0 ∗ Ow c O)
      ⊢ iprop(((Oc X c 0 0 ∗ Oc X c 1 0 ∗ Ow c O) -∗ Runs c k Q) -∗ Runs c (load0 c k) Q) :=
  run_load X Y κ ιs c 0 (by omega) hO k

theorem run_loadT (t : Fin 7) {O : CellTallies nD τ sig ℕ} (hO : ∀ g u, 0 < O g u → u ∈ L g ∧ 0 < lv g u) (k : P F PUnit) {Q : PUnit → sProp 𝕄} :
    iprop(Recs X Y κ ιs ∗ Ob X c 0 (t.val + 1) ∗ Ob X c 1 (t.val + 1) ∗ Ow c O)
      ⊢ iprop(((Oc X c 0 (t.val + 1) ∗ Oc X c 1 (t.val + 1) ∗ Ow c O) -∗ Runs c k Q) -∗ Runs c (loadT c t k) Q) := by
  have h := run_load X Y κ ιs c (t.val + 1) (by omega) hO k (Q := Q)
  rw [load_congr (srcOff_succ c 0 t) (srcOff_succ c 1 t) (inb_srcOff c 0 _) (inb_offT 0 t c) (inb_srcOff c 1 _) (inb_offT 1 t c) k] at h
  exact h

/-! ## The exchanges with both neighbours -/

/-- A unit to each neighbour, and one from each. -/
theorem run_meet (cl : Cl) (s : Sem sig) (hs : semOf cl = .reg s) (hd : duties cl 0 = {0, 1}) (ha : amount cl = 1) {O : CellTallies nD τ sig ℕ}
    (hO : ∀ g u, 0 < O g u → u ∈ L g ∧ lvCl cl 0 < lv g u) (k : P F PUnit) {Q : PUnit → sProp 𝕄} :
    iprop(Recs X Y κ ιs ∗ Tok (left c) cl 0 0 ∗ Tok (right c) cl 0 1 ∗ reached ER (cell (left c) cl) 0 ∗ reached ER (cell (right c) cl) 0
        ∗ payload X Y (left c) cl 0 0 ∗ payload X Y (right c) cl 0 1 ∗ atPos ER (cell c cl) 0 ∅ 0 ∗ cred (tallyAt (cell c cl) 0 2) ∗ Ow c (O + owesX cl c))
      ⊢ iprop(((payload X Y c cl 0 0 ∗ payload X Y c cl 0 1 ∗ atPos ER (cell c cl) 1 ∅ 0 ∗ Ow c O) -∗ Runs c k Q) -∗ Runs c (meet c s k) Q) := by
  have hc : ∀ c : Dev nD, cell c cl = ((c : Thread nD τ), SemLoc.reg s) := fun c => congrArg (Prod.mk (c : Thread nD τ)) hs
  have hmem : ∀ (c : Dev nD) (i : ℕ), i ∈ ({0, 1} : Finset ℕ) → i ∈ (Rd X Y).duties (cell c cl) 0 := fun c i h => Rd_mem X Y c cl 0 i (by rw [hd]; exact h)
  have hamt : ∀ (c : Dev nD) (i : ℕ), (Rd X Y).amount (cell c cl) 0 i = 1 := fun c i => (Rd_amount X Y c cl 0 i).trans ha
  have hpay : ∀ (c : Dev nD) (i : ℕ), (payload X Y c cl 0 i : sProp 𝕄) ⊢ (Rd X Y).payload (cell c cl) 0 i := fun c i => Rd_pays X Y c cl 0 i .rfl
  have hexp : 0 + 2 = (Rd X Y).expect (cell c cl) 0 := by rw [Rd_expect, hd, ha]; rfl
  have hrest : (bigSep ((Rd X Y).duties (cell c cl) 0 \ ∅) fun i => (Rd X Y).payload (cell c cl) 0 i) ⊢ iprop(payload X Y c cl 0 0 ∗ payload X Y c cl 0 1) := by
    rw [Finset.sdiff_empty, Rd_duties, hd, bigSep_congr fun i _ => Rd_payload X Y c cl 0 i]
    have h : (bigSep (insert 0 {1}) fun i => (payload X Y c cl 0 i : sProp 𝕄)) = iprop(payload X Y c cl 0 0 ∗ bigSep {1} fun i => payload X Y c cl 0 i) :=
      bigSep_insert (by simp)
    refine (Entails.of_eq h).trans ?_
    rw [bigSep_singleton]
  have hlev : iprop(Recs X Y κ ιs) ⊢ MayWait (c : Thread nD τ) (semOf cl) 0 O := (Recs_lev X Y κ ιs).trans (mayWait c cl 0 (by omega) hO)
  have hown : O + owesX cl c = (O + tallyAt (cell (right c) cl) 0 1) + tallyAt (cell (left c) cl) 0 1 := by unfold owesX; abel
  have hrl := Recs_cell X Y κ ιs (left c) cl
  have hrr := Recs_cell X Y κ ιs (right c) cl
  have hrc := Recs_cell X Y κ ιs c cl
  unfold Tok
  rw [hown, hs] at *
  simp only [hc] at *
  unfold Ow
  iintro ⟨#HR, Ht0, Ht1, #Hr0, #Hr1, Hp0, Hp1, Hat, Hcr, ⟨%W, HO⟩⟩ Hk
  iapply (Rounds.wp_signal 𝒱₀ ER (Rd X Y) (c : Thread nD τ) none (dst := (left c : Thread nD τ)) (sem := s) (r := 0) (d := 0) (k' := 1)
      (κ := κ ((left c : Thread nD τ), SemLoc.reg s)) (hmem (left c) 0 (by simp)) (hamt (left c) 0) 0
      (O + tallyAt ((right c : Thread nD τ), SemLoc.reg s) 0 1) rfl (W := W)) $$ [HO Ht0 Hp0]
  · isplitr; · iapply hrl; iexact HR
    isplitl [HO]; · iexact HO
    isplitl [Ht0]; · iexact Ht0
    isplitl [Hp0]; · iapply (hpay (left c) 0); iexact Hp0
    iexact Hr0
  iintro HO
  iapply (Rounds.wp_signal 𝒱₀ ER (Rd X Y) (c : Thread nD τ) none (dst := (right c : Thread nD τ)) (sem := s) (r := 0) (d := 1) (k' := 1)
      (κ := κ ((right c : Thread nD τ), SemLoc.reg s)) (hmem (right c) 1 (by simp)) (hamt (right c) 1) 0 O rfl (W := W)) $$ [HO Ht1 Hp1]
  · isplitr; · iapply hrr; iexact HR
    isplitl [HO]; · iexact HO
    isplitl [Ht1]; · iexact Ht1
    isplitl [Hp1]; · iapply (hpay (right c) 1); iexact Hp1
    iexact Hr1
  iintro HO
  iapply (Rounds.wp_wait_rest_token 𝒱₀ ER (Rd X Y) (c : Thread nD τ) none (κ := κ ((c : Thread nD τ), SemLoc.reg s))
      (wpE_semWait_eq 𝒱₀ (c : Thread nD τ) none Set.univ) (Set.mem_univ _) 0 (k' := 2) (O := O) (W := W) (R := 0) (m := 0) (T := ∅) hexp) $$ [Hcr HO Hat]
  · isplitr; · iapply hrc; iexact HR
    isplitl [Hcr]; · iexact Hcr
    isplitl [HO]; · iexact HO
    isplitr; · iapply hlev; iexact HR
    iexact Hat
  iintro ⟨HO, Hat, -, Hpay⟩
  ihave Hp := hrest $$ Hpay
  icases Hp with ⟨Hp0, Hp1⟩
  iapply Hk
  isplitl [Hp0]; · iexact Hp0
  isplitl [Hp1]; · iexact Hp1
  isplitl [Hat]; · iexact Hat
  iexists _; iexact HO

end Cert.KernelIdeal.Ring

end
-- ==== Proof.Parts.lean ====
/-
  The parts of the body: one sub-block of the prologue, of a round and of the last round, and
  the eight sub-blocks in turn.
-/
module

public import proofs.«01_k».proof.Proof.Comm

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (X : Dev nD → (main_v1 : Ref sig .tc).ty.Contents (Elt F)) (Y : Dev nD → S512x4096.Idx → Elt F .f32)
variable (κ : GSem nD τ sig → ℕ) (ιs : Key → ℕ)

variable (c : Dev nD)

/-! ## A sub-block between two rounds -/

/-- The owner's positions at the four cells of a sub-block before the end of transfer `k`. -/
def Pos (k : ℕ) (q : Fin 4) (d : Fin 2) : sProp 𝕄 :=
  iprop(At c (.send d (sl k) q) (k / 2) ∗ At c (.send d (other (sl k)) q) ((k + 1) / 2)
    ∗ At c (.recv d (other (sl k)) q) (k / 2) ∗ At c (.recv d (sl k) q) ((k + 1) / 2))
/-- The tokens transfer `k` spends. -/
def sendTok (k : ℕ) (q : Fin 4) (d : Fin 2) : sProp 𝕄 :=
  iprop(Tok c (.send d (sl k) q) (k / 2) 0 ∗ Tok (toD d c) (.recv d (other (sl k)) q) (k / 2) 0)
/-- The unit transfer `k` from the previous device will bring. -/
def recvCred (k : ℕ) (q : Fin 4) (d : Fin 2) : sProp 𝕄 :=
  cred (tallyAt (cell c (.recv d (other (sl k)) q)) (num k q d) (amount (.recv d (other (sl k)) q)))
/-- What round `k` spends: that unit, its credit to the previous device and the one from the next, the slot's release
    and the right to take the next device's, and the next transfer's tokens. -/
def stock (k : ℕ) (q : Fin 4) (d : Fin 2) : sProp 𝕄 :=
  iprop(recvCred c k q d ∗ Tok (fromD d c) (.credit d) 0 (4 * k + q.val) ∗ cred (tallyAt (cell c (.credit d)) (num k q d) 1)
    ∗ readerAt ES ((c, d, 4 * k + q.val) : Key) 0 ∗ writeTok ES ((toD d c, d, 4 * k + q.val) : Key) 1 ∗ sendTok c (k + 1) q d)
theorem stock_eq (k : ℕ) (q : Fin 4) (d : Fin 2) : (stock c k q d : sProp 𝕄) = iprop(
    cred (tallyAt (cell c (.recv d (other (sl k)) q)) (num k q d) (amount (.recv d (other (sl k)) q)))
    ∗ Tok (fromD d c) (.credit d) 0 (4 * k + q.val) ∗ cred (tallyAt (cell c (.credit d)) (num k q d) 1)
    ∗ readerAt ES ((c, d, 4 * k + q.val) : Key) 0 ∗ writeTok ES ((toD d c, d, 4 * k + q.val) : Key) 1
    ∗ Tok c (.send d (other (sl k)) q) ((k + 1) / 2) 0 ∗ Tok (toD d c) (.recv d (sl k) q) ((k + 1) / 2) 0) := by
  unfold stock sendTok recvCred
  rw [sl_succ, other_other]
/-- What is left for the rounds from `k` on. -/
def rest (k : ℕ) (q : Fin 4) (d : Fin 2) : sProp 𝕄 :=
  iprop((bigSep (Finset.Ico k 6) fun i => stock c i q d) ∗ recvCred c 6 q d)
/-- A sub-block before round `k`, transfer `k` under way. -/
def St (k : ℕ) (q : Fin 4) (d : Fin 2) : sProp 𝕄 :=
  iprop(Pos c k q d ∗ cred (tallyAt (cell c (.send d (sl k) q)) 0 (amount (.send d (sl k) q))) ∗ rest c k q d)
/-- A sub-block before the prologue. -/
def St₀ (q : Fin 4) (d : Fin 2) : sProp 𝕄 :=
  iprop(Pos c 0 q d ∗ room c (piece d 0 q) ∗ landing (toD d c) d 1 q 0 ∗ sendTok c 0 q d ∗ rest c 0 q d)
/-- A sub-block at the end. -/
def St₇ (q : Fin 4) (d : Fin 2) : sProp 𝕄 :=
  iprop(Pos c 7 q d ∗ room c (piece d 0 q) ∗ room c (piece d 1 q))

theorem num_succ (k : ℕ) (q : Fin 4) (d : Fin 2) : num (k + 1) q d = num k q d + 8 := by unfold num; omega

variable (d : Fin 2) (q : Fin 4)

/-- The prologue's sub-block. -/
theorem run_firstQ (b : ℕ) (k : P F PUnit) {Q : PUnit → sProp 𝕄} :
    iprop(Recs X Y κ ιs ∗ St₀ c q d ∗ holds c (oPiece d) (chunk X c d 0) ∗ holds c woM (Y c) ∗ Ow c (due (num 0 q d) b c))
      ⊢ iprop(((St c 0 q d ∗ holds c (oPiece d) (chunk X c d 0) ∗ holds c woM (Y c) ∗ Ow c (due (num 0 q d + 1) b c)) -∗ Runs c k Q)
        -∗ Runs c (firstQ c q d k) Q) := by
  unfold St₀ St sendTok Pos firstQ
  iintro ⟨#HR, ⟨⟨Ha, Hpos⟩, Hroom, Hland, ⟨Ht1, Ht2⟩, Hrest⟩, Ho, Hw, HO⟩ Hk
  iapply (run_first c d q (Y c) (chunk X c d 0) _) $$ [Ho Hw Hroom]
  · isplitl [Ho]; · iexact Ho
    isplitl [Hw] <;> iassumption
  iintro ⟨Ho, Hw, Hp⟩
  unfold At
  icases Ha with ⟨Ha, #Hr⟩
  iapply (run_send X Y κ ιs c d q 0 (by omega) b _) $$ [Hp Hland Ht1 Ht2 HO]
  · isplitr; · iexact HR
    isplitl [Hp]; · iexact Hp
    isplitl [Hland]; · iexact Hland
    isplitr; · iexact Hr
    isplitl [Ht1]; · iexact Ht1
    isplitl [Ht2]; · iexact Ht2
    iexact HO
  iintro ⟨Hc, HO⟩
  iapply Hk
  isplitr [Ho Hw HO]
  · isplitl [Ha Hpos]
    · isplitl [Ha]
      · isplitl [Ha]; · iexact Ha
        iexact Hr
      iexact Hpos
    isplitl [Hc] <;> iassumption
  isplitl [Ho]; · iexact Ho
  isplitl [Hw] <;> iassumption

/-- A round's sub-block, but the last round's. -/
theorem run_midQ (t : Fin 7) (h : t.val < 6) (k : P F PUnit) {Q : PUnit → sProp 𝕄} :
    iprop(Recs X Y κ ιs ∗ met c d ∗ St c t q d ∗ Cr c d (4 * t.val + q.val) ∗ left' c d (4 * t.val + q.val) ∗ holds c (oPiece d) (chunk X c d (t.val + 1))
        ∗ holds c woM (Y c) ∗ Ow c (due (num t q d + 8) (num t q d) c))
      ⊢ iprop(((St c (t.val + 1) q d ∗ Cr c d (4 * t.val + q.val + 1) ∗ left' c d (4 * t.val + q.val + 1) ∗ holds c (oPiece d) (chunk X c d (t.val + 1))
          ∗ holds c woM (Y c) ∗ Ow c (due (num t q d + 8 + 1) (num t q d + 1) c)) -∗ Runs c k Q)
        -∗ Runs c (midQ c t q d k) Q) := by
  obtain ⟨t, ht⟩ := t
  change t < 6 at h
  show iprop(Recs X Y κ ιs ∗ met c d ∗ St c t q d ∗ Cr c d (4 * t + q.val) ∗ left' c d (4 * t + q.val) ∗ holds c (oPiece d) (chunk X c d (t + 1))
        ∗ holds c woM (Y c) ∗ Ow c (due (num t q d + 8) (num t q d) c))
      ⊢ iprop(((St c (t + 1) q d ∗ Cr c d (4 * t + q.val + 1) ∗ left' c d (4 * t + q.val + 1) ∗ holds c (oPiece d) (chunk X c d (t + 1))
          ∗ holds c woM (Y c) ∗ Ow c (due (num t q d + 8 + 1) (num t q d + 1) c)) -∗ Runs c k Q)
        -∗ Runs c ((waitSend d (sl t) q).bind fun _ => (waitRecv d (other (sl t)) q).bind fun _ =>
          (semSignalWord (fromD d c) (creditS d) 1#32).bind fun _ =>
          each4 (acc1 d (other (sl t)) q) ((semWaitWord (creditS d) 1#32).bind fun _ => (send c d (other (sl t)) q).bind fun _ => k)) Q)
  have hn := num_lt' d q h
  have hab1 : ∀ g u, 0 < due (num t q d + 8) (num t q d) c g u → u ∈ L g ∧ 0 < lv g u := due_above c (by omega) (by omega) (by omega)
  have hab2 : ∀ g u, 0 < due (num t q d + 8) (num t q d) c g u → u ∈ L g ∧ 2 * num t q d + 2 < lv g u := due_above c (by omega) (by omega) (by omega)
  have hab3 : ∀ g u, 0 < due (num t q d + 8) (num t q d + 1) c g u → u ∈ L g ∧ 2 * num t q d + 3 < lv g u := due_above c (by omega) (by omega) (by omega)
  have hsend := run_send X Y κ ιs c d q (t + 1) (by omega) (num t q d + 1) (fun _ => k) (Q := Q)
  unfold St rest Pos
  rw [Ico_head t 6 h]
  rw [num_succ, sl_succ, other_other] at hsend
  rw [sl_succ, other_other, show (t + 1 + 1) / 2 = t / 2 + 1 by omega]
  iintro ⟨#HR, #Hmet, ⟨⟨Ha1, Ha2, Ha3, Ha4⟩, Hsc, ⟨Hst, Hrest⟩, Hlast⟩, HCr, Hleft, Ho, Hw, HO⟩ Hk
  ihave Hst := (Entails.of_eq (stock_eq c t q d)) $$ Hst
  icases Hst with ⟨Hrc, Hct, Hcc, Hrd, Hwt, Ht1, Ht2⟩
  iapply (run_waitSend X Y κ ιs c d q t ht hab1 _) $$ [Hsc HO Ha1]
  · isplitr; · iexact HR
    isplitl [Hsc]; · iexact Hsc
    isplitl [HO] <;> iassumption
  iintro ⟨HO, Ha1, Hroom⟩
  iapply (run_waitRecv X Y κ ιs c d q t ht hab2 _) $$ [Hrc HO Ha3]
  · isplitr; · iexact HR
    isplitl [Hrc]; · iexact Hrc
    isplitl [HO] <;> iassumption
  iintro ⟨HO, Ha3, Hp⟩
  ihave Ha4 := (Entails.of_eq (show (At c (.recv d (sl t) q) ((t + 1) / 2) : sProp 𝕄) = iprop(atPos ER (cell c (.recv d (sl t) q)) ((t + 1) / 2) ∅ 0
    ∗ reached ER (cell c (.recv d (sl t) q)) ((t + 1) / 2)) from rfl)) $$ Ha4
  icases Ha4 with ⟨Ha4, #Hr4⟩
  iapply (run_release X Y κ ιs c d q t h (num t q d + 8) _) $$ [Hrd Hroom Hleft Hct HO]
  · isplitr; · iexact HR
    isplitl [Hrd]; · iexact Hrd
    isplitl [Hroom]
    · unfold landing; isplitl [Hroom]; · iexact Hroom
      iexact Hr4
    isplitl [Hleft]; · iexact Hleft
    isplitl [Hct]; · iexact Hct
    isplitr; · iexact Hmet
    iexact HO
  iintro ⟨Hleft, HO⟩
  iapply (run_acc c d (other (sl t)) q (Y c) (chunk X c d (t + 1)) (sent X Y t (fromD d c) d q) _) $$ [Ho Hw Hp]
  · isplitl [Ho]; · iexact Ho
    isplitl [Hw] <;> iassumption
  iintro ⟨Ho, Hw, Hp⟩
  iapply (run_credit X Y κ ιs c d q t h hab3 _) $$ [Hcc HCr Hwt HO]
  · isplitr; · iexact HR
    isplitl [Hcc]; · iexact Hcc
    isplitl [HCr]; · iexact HCr
    isplitl [Hwt] <;> iassumption
  iintro ⟨HCr, Hland, HO⟩
  ihave Ha2 := (Entails.of_eq (show (At c (.send d (other (sl t)) q) ((t + 1) / 2) : sProp 𝕄) = iprop(atPos ER (cell c (.send d (other (sl t)) q)) ((t + 1) / 2) ∅ 0
    ∗ reached ER (cell c (.send d (other (sl t)) q)) ((t + 1) / 2)) from rfl)) $$ Ha2
  icases Ha2 with ⟨Ha2, #Hr2⟩
  iapply hsend $$ [Hp Hland Ht1 Ht2 HO]
  · isplitr; · iexact HR
    isplitl [Hp]; · iexact Hp
    isplitl [Hland]; · iexact Hland
    isplitr; · iexact Hr2
    isplitl [Ht1]; · iexact Ht1
    isplitl [Ht2]; · iexact Ht2
    iexact HO
  iintro ⟨Hc, HO⟩
  iapply Hk
  isplitl [Ha1 Ha2 Ha3 Ha4 Hc Hrest Hlast]
  · isplitl [Ha1 Ha2 Ha3 Ha4]
    · isplitl [Ha2]
      · unfold At; isplitl [Ha2]; · iexact Ha2
        iexact Hr2
      isplitl [Ha1]; · iexact Ha1
      isplitl [Ha4]
      · unfold At; isplitl [Ha4]; · iexact Ha4
        iexact Hr4
      iexact Ha3
    isplitl [Hc]; · iexact Hc
    isplitl [Hrest] <;> iassumption
  isplitl [HCr]; · iexact HCr
  isplitl [Hleft]; · iexact Hleft
  isplitl [Ho]; · iexact Ho
  isplitl [Hw] <;> iassumption

/-! ## The result -/

/-- Which sub-block of which direction a column of the result is in. -/
def colQ (n : ℕ) : Fin 4 := ⟨n / 512 % 4, Nat.mod_lt _ (by decide)⟩
def colD (n : ℕ) : Fin 2 := ⟨n / 2048 % 2, Nat.mod_lt _ (by decide)⟩
/-- An element's place within its sub-block. -/
def colIx (i : S4x256x4096.Idx) : S1x256x512.Idx := fun a =>
  match a with
  | 0 => ⟨0, by decide⟩
  | 1 => ⟨(i 1).val, (i 1).isLt⟩
  | 2 => ⟨(i 2).val % 512, Nat.mod_lt _ (by decide)⟩

/-- The result. -/
def outAll (i : S4x256x4096.Idx) : Elt F .f32 :=
  outV (row (i 0) (sent X Y 6 (fromD (colD (i 2).val) c) (colD (i 2).val) (colQ (i 2).val))) (row (i 0) (chunk X c (colD (i 2).val) 7))
    (cols Y c (colD (i 2).val) (colQ (i 2).val)) (colIx i)

/-- When an element of the result is stored, among the sub-blocks' batches in turn. -/
def ordOut (i : S4x256x4096.Idx) : ℕ := 4 * (2 * (colQ (i 2).val).val + (colD (i 2).val).val) + (i 0).val

/-- The result after `n` batches. -/
def outUpto (n : ℕ) : sProp 𝕄 :=
  iprop(∃ v : S4x256x4096.Idx → Elt F .f32, ⌜∀ i, ordOut i < n → v i = outAll X Y c i⌝ ∗ holds c outM v)

theorem outRect_val (b : Fin 4) (j : S1x256x512.Idx) : ((outRect d q b).emb j 0 = b) ∧ ((outRect d q b).emb j 1).val = (j 1).val
    ∧ ((outRect d q b).emb j 2).val = 2048 * d.val + 512 * q.val + (j 2).val := by
  refine ⟨Fin.ext ?_, ?_, ?_⟩
  · rw [Rect.emb_apply, Rect.off_unit, Rect.stride_unit, Nat.one_mul]
    show b.val + (j 0).val = b.val
    have := (j 0).isLt
    change (j 0).val < 1 at this
    omega
  · rw [Rect.emb_apply, Rect.off_unit, Rect.stride_unit, Nat.one_mul]
    exact Nat.zero_add _
  · rw [Rect.emb_apply, Rect.off_unit, Rect.stride_unit, Nat.one_mul]
    rfl

theorem ordOut_emb (b : Fin 4) (j : S1x256x512.Idx) : colD ((outRect d q b).emb j 2).val = d ∧ colQ ((outRect d q b).emb j 2).val = q
    ∧ colIx ((outRect d q b).emb j) = j := by
  obtain ⟨h0, h1, h2⟩ := outRect_val d q b j
  have hj := (j 2).isLt
  change (j 2).val < 512 at hj
  rw [h2]
  refine ⟨Fin.ext ?_, Fin.ext ?_, funext fun a => ?_⟩
  · show (2048 * d.val + 512 * q.val + (j 2).val) / 2048 % 2 = d.val
    omega
  · show (2048 * d.val + 512 * q.val + (j 2).val) / 512 % 4 = q.val
    omega
  · match a with
    | 0 => exact Fin.ext (by have := (j 0).isLt; change (j 0).val < 1 at this; show 0 = (j 0).val; omega)
    | 1 => exact Fin.ext h1
    | 2 => exact Fin.ext (by
        show ((outRect d q b).emb j 2).val % 512 = (j 2).val
        rw [h2]; omega)

/-- Storing the last round's sum of one batch. -/
theorem run_outB (b : Fin 4) (k : PUnit → P F PUnit) {Q : PUnit → sProp 𝕄} :
    iprop(holds c (oPiece d) (chunk X c d 7) ∗ holds c woM (Y c) ∗ holds c (piece d 1 q) (sent X Y 6 (fromD d c) d q)
        ∗ outUpto X Y c (4 * (2 * q.val + d.val) + b.val))
      ⊢ iprop(((holds c (oPiece d) (chunk X c d 7) ∗ holds c woM (Y c) ∗ holds c (piece d 1 q) (sent X Y 6 (fromD d c) d q)
          ∗ outUpto X Y c (4 * (2 * q.val + d.val) + b.val + 1)) -∗ Runs c (k ⟨⟩) Q) -∗ Runs c ((out1 d q b).bind k) Q) := by
  classical
  unfold outUpto
  iintro ⟨Ho, Hw, Hp, ⟨%v, %hv, Hr⟩⟩ Hk
  iapply (run_out1 c d q b (Y c) (chunk X c d 7) (sent X Y 6 (fromD d c) d q) v
      (fun i => if i ∈ Finset.univ.map (outRect d q b).emb then outAll X Y c i else v i) k
      (fun j => by
        rw [if_pos (Finset.mem_map_of_mem _ (Finset.mem_univ j))]
        obtain ⟨hd, hq, hi⟩ := ordOut_emb d q b j
        unfold outAll
        rw [hd, hq, hi, (outRect_val d q b j).1]
        rfl)
      (fun i hi => if_neg hi)) $$ [Ho Hw Hp Hr]
  · isplitl [Ho]; · iexact Ho
    isplitl [Hw]; · iexact Hw
    isplitl [Hp] <;> iassumption
  iintro ⟨Ho, Hw, Hp, Hr⟩
  iapply Hk
  isplitl [Ho]; · iexact Ho
  isplitl [Hw]; · iexact Hw
  isplitl [Hp]; · iexact Hp
  iexists _
  isplitr
  swap; · iexact Hr
  ipureintro
  intro i hi
  split
  · rfl
  · rename_i hn
    apply hv
    by_contra hlt
    apply hn
    have he : ordOut i = 4 * (2 * q.val + d.val) + b.val := by omega
    unfold ordOut at he
    have h0 : (i 0).val < 4 := (i 0).isLt
    have h2 : (i 2).val < 4096 := (i 2).isLt
    have e1 : (colQ (i 2).val).val = (i 2).val / 512 % 4 := rfl
    have e2 : (colD (i 2).val).val = (i 2).val / 2048 % 2 := rfl
    rw [e1, e2] at he
    have hb : (i 0).val = b.val := by omega
    have hx : 2 * ((i 2).val / 512 % 4) + (i 2).val / 2048 % 2 = 2 * q.val + d.val := by omega
    have hd : (i 2).val / 2048 % 2 = d.val := by omega
    have hq : (i 2).val / 512 % 4 = q.val := by omega
    refine Finset.mem_map.mpr ⟨colIx i, Finset.mem_univ _, ?_⟩
    obtain ⟨g0, g1, g2⟩ := outRect_val d q b (colIx i)
    have e3 : (colIx i 2).val = (i 2).val % 512 := rfl
    funext a
    match a with
    | 0 => rw [g0]; exact Fin.ext (by omega)
    | 1 => exact Fin.ext g1
    | 2 => exact Fin.ext (by rw [g2, e3]; omega)

/-- The last round's sub-block. -/
theorem run_lastQ (b : ℕ) (hb : num 6 q d ≤ 63) (k : P F PUnit) {Q : PUnit → sProp 𝕄} :
    iprop(Recs X Y κ ιs ∗ St c 6 q d ∗ holds c (oPiece d) (chunk X c d 7) ∗ holds c woM (Y c) ∗ outUpto X Y c (4 * (2 * q.val + d.val)) ∗ Ow c (due 56 48 c))
      ⊢ iprop(((St₇ c q d ∗ holds c (oPiece d) (chunk X c d 7) ∗ holds c woM (Y c) ∗ outUpto X Y c (4 * (2 * q.val + d.val + 1)) ∗ Ow c (due 56 48 c)) -∗ Runs c k Q)
        -∗ Runs c (lastQ q d k) Q) := by
  have hab1 : ∀ g u, 0 < due 56 48 c g u → u ∈ L g ∧ 0 < lv g u := due_above c (by omega) (by omega) (by omega)
  have hn : num 6 q d < 56 := num_lt d q (by omega)
  have hn' : num 6 q d ≥ 48 := by unfold num; omega
  have hab2 : ∀ g u, 0 < due 56 48 c g u → u ∈ L g ∧ 2 * num 6 q d + 2 < lv g u := by
    rw [due_end]
    intro g u h
    unfold owesX at h
    rw [Pi.add_apply, Finsupp.add_apply] at h
    have h' : 0 < (tallyAt (cell (left c) .leave) 0 1 : CellTallies nD τ sig ℕ) g u ∨ 0 < (tallyAt (cell (right c) .leave) 0 1 : CellTallies nD τ sig ℕ) g u := by omega
    rcases h' with h' | h'
    all_goals
      obtain ⟨rfl, rfl⟩ := tallyAt_pos h'
      rw [L_tc, lv_cell]
      exact ⟨Finset.mem_range.mpr (by omega), by show 2 * num 6 q d + 2 < 1000; omega⟩
  show _ ⊢ iprop(_ -∗ Runs c ((waitSend d (sl 6) q).bind fun _ => (waitRecv d (other (sl 6)) q).bind fun _ => each4 (out1 d q) k) Q)
  unfold St rest Pos recvCred St₇
  iintro ⟨#HR, ⟨⟨Ha1, Ha2, Ha3, Ha4⟩, Hsc, -, Hrc⟩, Ho, Hw, Hout, HO⟩ Hk
  iapply (run_waitSend X Y κ ιs c d q 6 (by omega) hab1 _) $$ [Hsc HO Ha1]
  · isplitr; · iexact HR
    isplitl [Hsc]; · iexact Hsc
    isplitl [HO] <;> iassumption
  iintro ⟨HO, Ha1, Hroom⟩
  iapply (run_waitRecv X Y κ ιs c d q 6 (by omega) hab2 _) $$ [Hrc HO Ha3]
  · isplitr; · iexact HR
    isplitl [Hrc]; · iexact Hrc
    isplitl [HO] <;> iassumption
  iintro ⟨HO, Ha3, Hp⟩
  iapply (run_outB X Y c d q 0 _) $$ [Ho Hw Hp Hout]
  · isplitl [Ho]; · iexact Ho
    isplitl [Hw]; · iexact Hw
    isplitl [Hp]; · iexact Hp
    iexact Hout
  iintro H
  iapply (run_outB X Y c d q 1 _) $$ H
  iintro H
  iapply (run_outB X Y c d q 2 _) $$ H
  iintro H
  iapply (run_outB X Y c d q 3 _) $$ H
  iintro ⟨Ho, Hw, Hp, Hout⟩
  iapply Hk
  isplitl [Ha1 Ha2 Ha3 Ha4 Hroom Hp]
  · unfold Pos
    isplitl [Ha1 Ha2 Ha3 Ha4]
    · isplitl [Ha2]; · iexact Ha2
      isplitl [Ha1]; · iexact Ha1
      isplitl [Ha4]; · iexact Ha4
      iexact Ha3
    isplitl [Hroom]; · iexact Hroom
    iapply (holds_room (F := F) c (piece d 1 q)); iexact Hp
  isplitl [Ho]; · iexact Ho
  isplitl [Hw]; · iexact Hw
  isplitl [Hout]; · iexact Hout
  iexact HO

end Cert.KernelIdeal.Ring

end
-- ==== Proof.Whole.lean ====
/-
  The whole body: from what a device starts with to what it ends with.
-/
module

public import proofs.«01_k».proof.Proof.Parts

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (X : Dev nD → (main_v1 : Ref sig .tc).ty.Contents (Elt F)) (Y : Dev nD → S512x4096.Idx → Elt F .f32)
variable (κ : GSem nD τ sig → ℕ) (ιs : Key → ℕ)

variable (c : Dev nD)

/-! ## Both directions, and all sub-blocks -/

/-- Of both directions. -/
def both (A : Fin 2 → sProp 𝕄) : sProp 𝕄 := iprop(A 0 ∗ A 1)
/-- Of all sub-blocks of both directions. -/
def all8 (A : Fin 4 → Fin 2 → sProp 𝕄) : sProp 𝕄 := bigSep Finset.univ fun q => both (A q)

theorem both_take (A : Fin 2 → sProp 𝕄) (d : Fin 2) : both A ⊢ iprop(A d ∗ A (other d)) := by
  match d with
  | 0 => exact .rfl
  | 1 =>
    show iprop(A 0 ∗ A 1) ⊢ iprop(A 1 ∗ A 0)
    iintro ⟨H1, H2⟩
    isplitl [H2] <;> iassumption
theorem both_put (A : Fin 2 → sProp 𝕄) (d : Fin 2) : iprop(A d ∗ A (other d)) ⊢ both A := by
  match d with
  | 0 => exact .rfl
  | 1 =>
    show iprop(A 1 ∗ A 0) ⊢ iprop(A 0 ∗ A 1)
    iintro ⟨H1, H2⟩
    isplitl [H2] <;> iassumption
theorem both_sep (A B : Fin 2 → sProp 𝕄) : iprop(both A ∗ both B) ⊢ both fun d => iprop(A d ∗ B d) := by
  unfold both
  iintro ⟨⟨H1, H2⟩, H3, H4⟩
  isplitl [H1 H3]; · isplitl [H1] <;> iassumption
  isplitl [H2] <;> iassumption
theorem both_mono {A B : Fin 2 → sProp 𝕄} (h : ∀ d, A d ⊢ B d) : both A ⊢ both B := by
  unfold both
  iintro ⟨H1, H2⟩
  isplitl [H1]; · iapply (h 0); iexact H1
  iapply (h 1); iexact H2

theorem bigSep_four (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) from by decide]
  have h1 : bigSep (insert 0 (insert 1 (insert 2 {3}))) Φ = iprop(Φ 0 ∗ bigSep (insert 1 (insert 2 {3})) Φ) := bigSep_insert (by decide)
  have h2 : bigSep (insert 1 (insert 2 {3})) Φ = iprop(Φ 1 ∗ bigSep (insert 2 {3}) Φ) := bigSep_insert (by decide)
  have h3 : bigSep (insert 2 {3}) Φ = iprop(Φ 2 ∗ bigSep {3} Φ) := bigSep_insert (by decide)
  rw [h1, h2, h3, bigSep_singleton]

theorem all8_mono {A B : Fin 4 → Fin 2 → sProp 𝕄} (h : ∀ q d, A q d ⊢ B q d) : all8 A ⊢ all8 B := by
  unfold all8
  rw [bigSep_four, bigSep_four]
  iintro ⟨H0, H1, H2, H3⟩
  isplitl [H0]; · iapply (both_mono (h 0)); iexact H0
  isplitl [H1]; · iapply (both_mono (h 1)); iexact H1
  isplitl [H2]; · iapply (both_mono (h 2)); iexact H2
  iapply (both_mono (h 3)); iexact H3
theorem all8_sep (A B : Fin 4 → Fin 2 → sProp 𝕄) : iprop(all8 A ∗ all8 B) ⊢ all8 fun q d => iprop(A q d ∗ B q d) := by
  unfold all8
  rw [bigSep_four, bigSep_four, bigSep_four]
  iintro ⟨⟨H0, H1, H2, H3⟩, G0, G1, G2, G3⟩
  isplitl [H0 G0]; · iapply (both_sep (A 0) (B 0)); isplitl [H0] <;> iassumption
  isplitl [H1 G1]; · iapply (both_sep (A 1) (B 1)); isplitl [H1] <;> iassumption
  isplitl [H2 G2]; · iapply (both_sep (A 2) (B 2)); isplitl [H2] <;> iassumption
  iapply (both_sep (A 3) (B 3)); isplitl [H3] <;> iassumption
/-- Direction by direction. -/
theorem all8_split (A : Fin 4 → Fin 2 → sProp 𝕄) :
    all8 A ⊣⊢ iprop((bigSep Finset.univ fun q => A q 0) ∗ bigSep Finset.univ fun q => A q 1) := by
  unfold all8 both
  rw [bigSep_four, bigSep_four, bigSep_four]
  constructor
  · iintro ⟨⟨A0, B0⟩, ⟨A1, B1⟩, ⟨A2, B2⟩, ⟨A3, B3⟩⟩
    isplitl [A0 A1 A2 A3]
    · isplitl [A0]; · iexact A0
      isplitl [A1]; · iexact A1
      isplitl [A2] <;> iassumption
    isplitl [B0]; · iexact B0
    isplitl [B1]; · iexact B1
    isplitl [B2] <;> iassumption
  · iintro ⟨⟨A0, A1, A2, A3⟩, B0, B1, B2, B3⟩
    isplitl [A0 B0]; · isplitl [A0] <;> iassumption
    isplitl [A1 B1]; · isplitl [A1] <;> iassumption
    isplitl [A2 B2]; · isplitl [A2] <;> iassumption
    isplitl [A3] <;> iassumption

/-- The eight sub-blocks in turn, each taking its own `A` to `B` and a common `C` a step on. -/
theorem run_each8 (f : Fin 4 → Fin 2 → P F PUnit → P F PUnit) (R : sProp 𝕄) [BI.Persistent R] (A B : Fin 4 → Fin 2 → sProp 𝕄) (C : ℕ → sProp 𝕄)
    {Q : PUnit → sProp 𝕄}
    (h : ∀ (q : Fin 4) (d : Fin 2) (k : P F PUnit), iprop(R ∗ A q d ∗ C (2 * q.val + d.val))
      ⊢ iprop(((B q d ∗ C (2 * q.val + d.val + 1)) -∗ Runs c k Q) -∗ Runs c (f q d k) Q)) (k : P F PUnit) :
    iprop(R ∗ all8 A ∗ C 0) ⊢ iprop(((all8 B ∗ C 8) -∗ Runs c k Q) -∗ Runs c (each8 f k) Q) := by
  unfold all8 both
  rw [bigSep_four, bigSep_four]
  iintro ⟨#HR, ⟨⟨A0, A1⟩, ⟨A2, A3⟩, ⟨A4, A5⟩, ⟨A6, A7⟩⟩, HC⟩ Hk
  unfold each8
  iapply (h 0 0 _) $$ [A0 HC]
  · isplitr; · iexact HR
    isplitl [A0]; · iexact A0
    iexact HC
  iintro ⟨B0, HC⟩
  iapply (h 0 1 _) $$ [A1 HC]
  · isplitr; · iexact HR
    isplitl [A1]; · iexact A1
    iexact HC
  iintro ⟨B1, HC⟩
  iapply (h 1 0 _) $$ [A2 HC]
  · isplitr; · iexact HR
    isplitl [A2]; · iexact A2
    iexact HC
  iintro ⟨B2, HC⟩
  iapply (h 1 1 _) $$ [A3 HC]
  · isplitr; · iexact HR
    isplitl [A3]; · iexact A3
    iexact HC
  iintro ⟨B3, HC⟩
  iapply (h 2 0 _) $$ [A4 HC]
  · isplitr; · iexact HR
    isplitl [A4]; · iexact A4
    iexact HC
  iintro ⟨B4, HC⟩
  iapply (h 2 1 _) $$ [A5 HC]
  · isplitr; · iexact HR
    isplitl [A5]; · iexact A5
    iexact HC
  iintro ⟨B5, HC⟩
  iapply (h 3 0 _) $$ [A6 HC]
  · isplitr; · iexact HR
    isplitl [A6]; · iexact A6
    iexact HC
  iintro ⟨B6, HC⟩
  iapply (h 3 1 _) $$ [A7 HC]
  · isplitr; · iexact HR
    isplitl [A7]; · iexact A7
    iexact HC
  iintro ⟨B7, HC⟩
  iapply Hk
  isplitr [HC]
  · isplitl [B0 B1]; · isplitl [B0] <;> iassumption
    isplitl [B2 B3]; · isplitl [B2] <;> iassumption
    isplitl [B4 B5]; · isplitl [B4] <;> iassumption
    isplitl [B6] <;> iassumption
  iexact HC

/-! ## The prologue's sub-blocks -/

theorem Oc_open (d : Fin 2) (j : ℕ) : (Oc X c d j : sProp 𝕄) ⊢ iprop(holds c (oPiece d) (chunk X c d j)
    ∗ (holds c (oPiece d) (chunk X c d j) -∗ Oc X c d j)) := by
  unfold Oc
  iintro ⟨H1, H2, H3⟩
  isplitl [H2]; · iexact H2
  iintro H2
  isplitl [H1]; · iexact H1
  isplitl [H2] <;> iassumption

/-- What the prologue's sub-blocks pass on. -/
def C₀ (n : ℕ) : sProp 𝕄 := iprop(Ow c (due n 0 c) ∗ both (fun d => Oc X c d 0) ∗ holds c woM (Y c))

theorem run_prologue (k : P F PUnit) {Q : PUnit → sProp 𝕄} :
    iprop(Recs X Y κ ιs ∗ all8 (St₀ c) ∗ C₀ X Y c 0) ⊢ iprop(((all8 (St c 0) ∗ C₀ X Y c 8) -∗ Runs c k Q) -∗ Runs c (each8 (firstQ c) k) Q) := by
  refine run_each8 c (firstQ c) (Recs X Y κ ιs) (St₀ c) (St c 0) (C₀ X Y c) (fun q d k => ?_) k
  have hf := run_firstQ X Y κ ιs c d q 0 k (Q := Q)
  rw [show num 0 q d = 2 * q.val + d.val from Nat.zero_add _] at hf
  unfold C₀
  iintro ⟨#HR, HA, HO, Hb, Hw⟩ Hk
  ihave Hb := (both_take (fun d => Oc X c d 0) d) $$ Hb
  icases Hb with ⟨Hd, Hd'⟩
  ihave Hd := (Oc_open X c d 0) $$ Hd
  icases Hd with ⟨Ho, Hback⟩
  iapply hf $$ [HA Ho Hw HO]
  · isplitr; · iexact HR
    isplitl [HA]; · iexact HA
    isplitl [Ho]; · iexact Ho
    isplitl [Hw] <;> iassumption
  iintro ⟨HA, Ho, Hw, HO⟩
  ihave Hd := Hback $$ Ho
  iapply Hk
  isplitl [HA]; · iexact HA
  isplitl [HO]; · iexact HO
  isplitr [Hw]
  · iapply (both_put (fun d => Oc X c d 0) d); isplitl [Hd] <;> iassumption
  iexact Hw

/-! ## A round -/

/-- A direction before round `k`: its credits taken and its releases done, and the last chunk. -/
def Dir (k : ℕ) (d : Fin 2) : sProp 𝕄 := iprop(Cr c d (4 * k) ∗ left' c d (4 * k) ∗ Oc X c d k)
/-- A direction after `n` of round `k`'s sub-blocks. -/
def Mid (k n : ℕ) (d : Fin 2) : sProp 𝕄 :=
  iprop(Cr c d (4 * k + (n + 1 - d.val) / 2) ∗ left' c d (4 * k + (n + 1 - d.val) / 2) ∗ Oc X c d (k + 1))
/-- What a round's sub-blocks pass on. -/
def C₁ (k n : ℕ) : sProp 𝕄 := iprop(Ow c (due (8 * k + n + 8) (8 * k + n) c) ∗ both (Mid X c k n) ∗ holds c woM (Y c))

theorem Mid_own (k : ℕ) (q : Fin 4) (d : Fin 2) :
    (Mid X c k (2 * q.val + d.val) d : sProp 𝕄) = iprop(Cr c d (4 * k + q.val) ∗ left' c d (4 * k + q.val) ∗ Oc X c d (k + 1)) := by
  unfold Mid; rw [show (2 * q.val + d.val + 1 - d.val) / 2 = q.val by omega]
theorem Mid_own' (k : ℕ) (q : Fin 4) (d : Fin 2) :
    (Mid X c k (2 * q.val + d.val + 1) d : sProp 𝕄) = iprop(Cr c d (4 * k + q.val + 1) ∗ left' c d (4 * k + q.val + 1) ∗ Oc X c d (k + 1)) := by
  unfold Mid; rw [show (2 * q.val + d.val + 1 + 1 - d.val) / 2 = q.val + 1 by omega]; rfl
theorem Mid_other (k : ℕ) (q : Fin 4) (d : Fin 2) :
    (Mid X c k (2 * q.val + d.val) (other d) : sProp 𝕄) = Mid X c k (2 * q.val + d.val + 1) (other d) := by
  unfold Mid
  match d with
  | 0 =>
    rw [show (2 * q.val + (0 : Fin 2).val + 1 - (other 0).val) / 2 = (2 * q.val + (0 : Fin 2).val + 1 + 1 - (other 0).val) / 2 from by
      show (2 * q.val + 0 + 1 - 1) / 2 = (2 * q.val + 0 + 1 + 1 - 1) / 2; omega]
  | 1 =>
    rw [show (2 * q.val + (1 : Fin 2).val + 1 - (other 1).val) / 2 = (2 * q.val + (1 : Fin 2).val + 1 + 1 - (other 1).val) / 2 from by
      show (2 * q.val + 1 + 1 - 0) / 2 = (2 * q.val + 1 + 1 + 1 - 0) / 2; omega]

theorem run_mids (t : Fin 7) (ht : t.val < 6) (k : P F PUnit) {Q : PUnit → sProp 𝕄} :
    iprop((Recs X Y κ ιs ∗ met c 0 ∗ met c 1) ∗ all8 (St c t.val) ∗ C₁ X Y c t.val 0)
      ⊢ iprop(((all8 (St c (t.val + 1)) ∗ C₁ X Y c t.val 8) -∗ Runs c k Q) -∗ Runs c (each8 (midQ c t) k) Q) := by
  refine run_each8 c (midQ c t) iprop(Recs X Y κ ιs ∗ met c 0 ∗ met c 1) (St c t.val) (St c (t.val + 1)) (C₁ X Y c t.val) (fun q d k => ?_) k
  have hm := run_midQ X Y κ ιs c d q t ht k (Q := Q)
  have hmet : iprop(met c 0 ∗ met c 1) ⊢ (met c d : sProp 𝕄) := by
    match d with
    | 0 => iintro ⟨H, -⟩; iexact H
    | 1 => iintro ⟨-, H⟩; iexact H
  unfold C₁
  rw [show 8 * t.val + (2 * q.val + d.val) = num t.val q d from rfl,
    show 8 * t.val + (2 * q.val + d.val + 1) = num t.val q d + 1 from rfl, show num t.val q d + 1 + 8 = num t.val q d + 8 + 1 by omega]
  iintro ⟨⟨#HR, #Hmet⟩, HA, HO, Hb, Hw⟩ Hk
  ihave Hb := (both_take (Mid X c t.val (2 * q.val + d.val)) d) $$ Hb
  icases Hb with ⟨Hd, Hd'⟩
  ihave Hd := (Entails.of_eq (Mid_own X c t.val q d)) $$ Hd
  icases Hd with ⟨HCr, Hleft, Hd⟩
  ihave Hd := (Oc_open X c d (t.val + 1)) $$ Hd
  icases Hd with ⟨Ho, Hback⟩
  iapply hm $$ [HA HCr Hleft Ho Hw HO]
  · isplitr; · iexact HR
    isplitr; · iapply hmet; iexact Hmet
    isplitl [HA]; · iexact HA
    isplitl [HCr]; · iexact HCr
    isplitl [Hleft]; · iexact Hleft
    isplitl [Ho]; · iexact Ho
    isplitl [Hw] <;> iassumption
  iintro ⟨HA, HCr, Hleft, Ho, Hw, HO⟩
  ihave Hd := Hback $$ Ho
  iapply Hk
  isplitl [HA]; · iexact HA
  isplitl [HO]; · iexact HO
  isplitr [Hw]
  · iapply (both_put (Mid X c t.val (2 * q.val + d.val + 1)) d)
    isplitr [Hd']
    · iapply (Entails.of_eq (Mid_own' X c t.val q d).symm)
      isplitl [HCr]; · iexact HCr
      isplitl [Hleft] <;> iassumption
    iapply (Entails.of_eq (Mid_other X c t.val q d)); iexact Hd'
  iexact Hw

/-- A device before round `k`. -/
def Before (k : ℕ) : sProp 𝕄 := iprop(all8 (St c k) ∗ both (Dir X c k) ∗ holds c woM (Y c) ∗ Ow c (due (8 * k + 8) (8 * k) c))

theorem run_round (t : Fin 7) (ht : t.val < 6) (k : P F PUnit) {Q : PUnit → sProp 𝕄} :
    iprop((Recs X Y κ ιs ∗ met c 0 ∗ met c 1) ∗ Before X Y c t.val)
      ⊢ iprop((Before X Y c (t.val + 1) -∗ Runs c k Q) -∗ Runs c (round c t k) Q) := by
  have hm := run_mids X Y κ ιs c t ht k (Q := Q)
  unfold Before round both Dir C₁ both Mid at *
  iintro ⟨⟨#HR, #Hmet⟩, HA, ⟨⟨Hc0, Hl0, Ho0⟩, Hc1, Hl1, Ho1⟩, Hw, HO⟩ Hk
  ihave Ho0 := (Oc_Ob X c 0 t.val) $$ Ho0
  ihave Ho1 := (Oc_Ob X c 1 t.val) $$ Ho1
  iapply (run_loadT X Y κ ιs c t (due_above c (by omega) (by omega) (by omega)) _) $$ [Ho0 Ho1 HO]
  · isplitr; · iexact HR
    isplitl [Ho0]; · iexact Ho0
    isplitl [Ho1] <;> iassumption
  iintro ⟨Ho0, Ho1, HO⟩
  iapply hm $$ [HA HO Hc0 Hl0 Ho0 Hc1 Hl1 Ho1 Hw]
  · isplitr
    · isplitr; · iexact HR
      iexact Hmet
    isplitl [HA]; · iexact HA
    isplitl [HO]; · iexact HO
    isplitr [Hw]
    · isplitl [Hc0 Hl0 Ho0]
      · isplitl [Hc0]; · iexact Hc0
        isplitl [Hl0] <;> iassumption
      isplitl [Hc1]; · iexact Hc1
      isplitl [Hl1] <;> iassumption
    iexact Hw
  iintro ⟨HA, HO, ⟨⟨Hc0, Hl0, Ho0⟩, Hc1, Hl1, Ho1⟩, Hw⟩
  iapply Hk
  isplitl [HA]; · iexact HA
  isplitr [Hw HO]
  · isplitl [Hc0 Hl0 Ho0]
    · isplitl [Hc0]; · iexact Hc0
      isplitl [Hl0] <;> iassumption
    isplitl [Hc1]; · iexact Hc1
    isplitl [Hl1] <;> iassumption
  isplitl [Hw] <;> iassumption

/-! ## The last round -/

/-- What the last round's sub-blocks pass on. -/
def C₂ (n : ℕ) : sProp 𝕄 :=
  iprop(Ow c (due 56 48 c) ∗ both (fun d => Oc X c d 7) ∗ holds c woM (Y c) ∗ outUpto X Y c (4 * n))

theorem run_lasts (k : P F PUnit) {Q : PUnit → sProp 𝕄} :
    iprop(Recs X Y κ ιs ∗ all8 (St c 6) ∗ C₂ X Y c 0) ⊢ iprop(((all8 (St₇ c) ∗ C₂ X Y c 8) -∗ Runs c k Q) -∗ Runs c (each8 lastQ k) Q) := by
  refine run_each8 c lastQ (Recs X Y κ ιs) (St c 6) (St₇ c) (C₂ X Y c) (fun q d k => ?_) k
  have hf := run_lastQ X Y κ ιs c d q 0 (by unfold num; omega) k (Q := Q)
  unfold C₂
  iintro ⟨#HR, HA, HO, Hb, Hw, Hout⟩ Hk
  ihave Hb := (both_take (fun d => Oc X c d 7) d) $$ Hb
  icases Hb with ⟨Hd, Hd'⟩
  ihave Hd := (Oc_open X c d 7) $$ Hd
  icases Hd with ⟨Ho, Hback⟩
  iapply hf $$ [HA Ho Hw Hout HO]
  · isplitr; · iexact HR
    isplitl [HA]; · iexact HA
    isplitl [Ho]; · iexact Ho
    isplitl [Hw]; · iexact Hw
    isplitl [Hout] <;> iassumption
  iintro ⟨HA, Ho, Hw, Hout, HO⟩
  ihave Hd := Hback $$ Ho
  iapply Hk
  isplitl [HA]; · iexact HA
  isplitl [HO]; · iexact HO
  isplitr [Hw Hout]
  · iapply (both_put (fun d => Oc X c d 7) d); isplitl [Hd] <;> iassumption
  isplitl [Hw] <;> iassumption

/-! ## From start to end -/

/-- What a device starts an exchange with. -/
def Meet (cl : Cl) : sProp 𝕄 :=
  iprop(Tok (left c) cl 0 0 ∗ Tok (right c) cl 0 1 ∗ atPos ER (cell c cl) 0 ∅ 0 ∗ cred (tallyAt (cell c cl) 0 2))

/-- What a device's cells show to others at the start: its credit cells and closing cell are open. -/
def shown : sProp 𝕄 :=
  iprop(both (fun d => reached ER (cell c (.credit d)) 0) ∗ reached ER (cell c .leave) 0)
/-- What a device starts with but the staged weights and result. -/
def Start : sProp 𝕄 :=
  iprop((all8 fun q d => iprop(Pos c 0 q d ∗ room c (piece d 0 q) ∗ sendTok c 0 q d ∗ rest c 0 q d))
    ∗ (all8 fun q d => landing c d 1 q 0) ∗ both (fun d => iprop(Cr c d 0 ∗ Ob X c d 0)) ∗ Meet c .enter ∗ Meet c .leave
    ∗ (□ (shown c ∗ reached ER (cell (left c) .enter) 0 ∗ reached ER (cell (right c) .enter) 0)) ∗ Ow c (due₀ c))
/-- What it ends with but those two. -/
def End : sProp 𝕄 :=
  iprop(all8 (St₇ c) ∗ both (fun d => iprop(Cr c d 24 ∗ Oc X c d 7)) ∗ atPos ER (cell c .enter) 1 ∅ 0 ∗ atPos ER (cell c .leave) 1 ∅ 0 ∗ Ow c 0)

instance : BI.Persistent (shown c : sProp 𝕄) := by unfold shown both; infer_instance

/-- What a device tells its two neighbours. -/
theorem greet_left : iprop((bigSep Finset.univ fun q => landing c 0 1 q 0) ∗ shown c) ⊢ (greet (left c) 0 : sProp 𝕄) := by
  unfold greet shown both met
  rw [show toD 0 (left c) = c from right_left c, show fromD (other 0) (left c) = c from right_left c]
  iintro ⟨Hl, ⟨-, Hs⟩, Hx⟩
  isplitl [Hl]; · iexact Hl
  isplitl [Hs]; · iexact Hs
  iexact Hx
theorem greet_right : iprop((bigSep Finset.univ fun q => landing c 1 1 q 0) ∗ shown c) ⊢ (greet (right c) 1 : sProp 𝕄) := by
  unfold greet shown both met
  rw [show toD 1 (right c) = c from left_right c, show fromD (other 1) (right c) = c from left_right c]
  iintro ⟨Hl, ⟨Hs, -⟩, Hx⟩
  isplitl [Hl]; · iexact Hl
  isplitl [Hs]; · iexact Hs
  iexact Hx

theorem run_enter (k : P F PUnit) {Q : PUnit → sProp 𝕄} :
    iprop(Recs X Y κ ιs ∗ Meet c .enter ∗ (all8 fun q d => landing c d 1 q 0)
        ∗ (□ (shown c ∗ reached ER (cell (left c) .enter) 0 ∗ reached ER (cell (right c) .enter) 0)) ∗ Ow c (due₀ c))
      ⊢ iprop((((all8 fun q d => landing (toD d c) d 1 q 0) ∗ (met c 0 ∗ met c 1) ∗ atPos ER (cell c .enter) 1 ∅ 0 ∗ Ow c (due 0 0 c)) -∗ Runs c k Q)
        -∗ Runs c (meet c barS k) Q) := by
  have hm := run_meet X Y κ ιs c .enter barS rfl rfl rfl (O := due 0 0 c)
    (due_above c (cut := 1) (by omega) (by omega) (by omega)) k (Q := Q)
  have g0 : (payload X Y c .enter 0 0 : sProp 𝕄) ⊢ iprop((bigSep Finset.univ fun q => landing (toD 0 c) 0 1 q 0) ∗ met c 1) := .rfl
  have g1 : (payload X Y c .enter 0 1 : sProp 𝕄) ⊢ iprop((bigSep Finset.univ fun q => landing (toD 1 c) 1 1 q 0) ∗ met c 0) := .rfl
  unfold Meet
  iintro ⟨#HR, ⟨Ht0, Ht1, Hat, Hcr⟩, Hland, #⟨Hs, Hr0, Hr1⟩, HO⟩ Hk
  ihave Hland := (all8_split (fun q d => landing c d 1 q 0)).1 $$ Hland
  icases Hland with ⟨Hl0, Hl1⟩
  iapply hm $$ [Ht0 Ht1 Hat Hcr Hl0 Hl1 HO]
  · isplitr; · iexact HR
    isplitl [Ht0]; · iexact Ht0
    isplitl [Ht1]; · iexact Ht1
    isplitr; · iexact Hr0
    isplitr; · iexact Hr1
    isplitl [Hl0]
    · iapply ((greet_left (F := F) c).trans (show greet (left c) 0 ⊢ payload X Y (left c) .enter 0 0 from .rfl)); isplitl [Hl0]; · iexact Hl0
      iexact Hs
    isplitl [Hl1]
    · iapply ((greet_right (F := F) c).trans (show greet (right c) 1 ⊢ payload X Y (right c) .enter 0 1 from .rfl)); isplitl [Hl1]; · iexact Hl1
      iexact Hs
    isplitl [Hat]; · iexact Hat
    isplitl [Hcr]; · iexact Hcr
    iexact HO
  iintro ⟨Hp0, Hp1, Hat, HO⟩
  ihave Hp0 := g0 $$ Hp0
  ihave Hp1 := g1 $$ Hp1
  icases Hp0 with ⟨Hl0, Hm1⟩
  icases Hp1 with ⟨Hl1, Hm0⟩
  iapply Hk
  isplitl [Hl0 Hl1]
  · iapply (all8_split (fun q d => landing (toD d c) d 1 q 0)).2; isplitl [Hl0] <;> iassumption
  isplitl [Hm0 Hm1]; · isplitl [Hm0] <;> iassumption
  isplitl [Hat] <;> iassumption

theorem run_leave (k : P F PUnit) {Q : PUnit → sProp 𝕄} :
    iprop(Recs X Y κ ιs ∗ Meet c .leave ∗ (met c 0 ∗ met c 1) ∗ Ow c (due 56 48 c))
      ⊢ iprop(((atPos ER (cell c .leave) 1 ∅ 0 ∗ Ow c 0) -∗ Runs c k Q) -∗ Runs c (meet c cc0_scoped0.sem k) Q) := by
  have hm := run_meet X Y κ ιs c .leave cc0_scoped0.sem rfl rfl rfl (O := 0)
    (fun g u h => absurd h (Nat.lt_irrefl 0)) k (Q := Q)
  have g (c : Dev nD) (i : ℕ) : (emp : sProp 𝕄) ⊢ payload X Y c .leave 0 i := .rfl
  unfold Meet met
  rw [due_end, show fromD 0 c = left c from rfl, show fromD 1 c = right c from rfl]
  rw [zero_add] at hm
  iintro ⟨#HR, ⟨Ht0, Ht1, Hat, Hcr⟩, ⟨⟨-, #Hr0⟩, -, #Hr1⟩, HO⟩ Hk
  iapply hm $$ [Ht0 Ht1 Hat Hcr HO]
  · isplitr; · iexact HR
    isplitl [Ht0]; · iexact Ht0
    isplitl [Ht1]; · iexact Ht1
    isplitr; · iexact Hr0
    isplitr; · iexact Hr1
    isplitr; · iapply (g (left c) 0); iempintro
    isplitr; · iapply (g (right c) 1); iempintro
    isplitl [Hat]; · iexact Hat
    isplitl [Hcr]; · iexact Hcr
    iexact HO
  iintro ⟨-, -, Hat, HO⟩
  iapply Hk
  isplitl [Hat] <;> iassumption

theorem outUpto_zero : (room c outM : sProp 𝕄) ⊢ outUpto X Y c 0 := by
  unfold room outUpto holds
  iintro ⟨%f, H⟩
  iexists outM.view.read (Elt F) f
  isplitr; · ipureintro; intro i h; exact absurd h (Nat.not_lt_zero _)
  iexists f
  isplitr; · ipureintro; rfl
  iexact H
theorem outUpto_all : (outUpto X Y c 32 : sProp 𝕄) ⊢ holds c outM (outAll X Y c) := by
  unfold outUpto
  iintro ⟨%v, %hv, H⟩
  have h : v = outAll X Y c := funext fun i => hv i (by
    unfold ordOut
    have h0 : (i 0).val < 4 := (i 0).isLt
    have := (colQ (i 2).val).isLt
    have := (colD (i 2).val).isLt
    omega)
  subst h
  iexact H

theorem run_deviceId (f : Dev nD → P F PUnit) {Q : PUnit → sProp 𝕄} : Runs c ((Prog.lift .deviceId).bind f) Q = Runs c (f c) Q := by
  show wp frame _ _ (.op .deviceId fun r => (Prog.ret r).bind f) Q = _
  rw [wp_deviceId]
  rfl

/-- The body from its device's number on. -/
def bodyOn (c : Dev nD) : P F PUnit :=
  meet c barS <| load0 c <| each8 (firstQ c) <| round c 0 <| round c 1 <| round c 2 <| round c 3 <| round c 4 <| round c 5 <|
    loadT c 6 <| each8 lastQ <| meet c cc0_scoped0.sem <| pure ⟨⟩
theorem body_on : body (F := F) = (Prog.lift .deviceId).bind bodyOn := by
  unfold body
  refine congrArg (Prog.bind (Prog.lift TpuEff.deviceId)) (funext fun c => ?_)
  unfold bodyOn
  with_reducible rfl

/-- The whole body. -/
theorem run_body {Q : PUnit → sProp 𝕄} :
    iprop(Recs X Y κ ιs ∗ Start X c ∗ holds c woM (Y c) ∗ room c outM)
      ⊢ iprop(((End X c ∗ holds c woM (Y c) ∗ holds c outM (outAll X Y c)) -∗ Q ⟨⟩) -∗ Runs c body Q) := by
  have hab : ∀ g u, 0 < due 0 0 c g u → u ∈ L g ∧ 0 < lv g u := due_above c (by omega) (by omega) (by omega)
  have hab' : ∀ g u, 0 < due 56 48 c g u → u ∈ L g ∧ 0 < lv g u := due_above c (by omega) (by omega) (by omega)
  have hC : (all8 fun q d => iprop(iprop(Pos c 0 q d ∗ room c (piece d 0 q) ∗ sendTok c 0 q d ∗ rest c 0 q d) ∗ landing (toD d c) d 1 q 0))
      ⊢ (all8 (St₀ c) : sProp 𝕄) := all8_mono fun q d => by
    unfold St₀
    iintro ⟨⟨H1, H2, H3, H4⟩, H5⟩
    isplitl [H1]; · iexact H1
    isplitl [H2]; · iexact H2
    isplitl [H5]; · iexact H5
    isplitl [H3] <;> iassumption
  rw [body_on, run_deviceId]
  unfold bodyOn
  have hfin : iprop(|={Set.univ}=> Q ⟨⟩) ⊢ Runs c (pure ⟨⟩) Q := .rfl
  unfold Start End
  iintro ⟨#HR, ⟨HA, Hland, Hb, Hme, Hml, #Hsh, HO⟩, Hw, Hout⟩ Hk
  iapply (run_enter X Y κ ιs c _) $$ [Hme Hland HO]
  · isplitr; · iexact HR
    isplitl [Hme]; · iexact Hme
    isplitl [Hland]; · iexact Hland
    isplitr; · iexact Hsh
    iexact HO
  iintro ⟨Hland, #Hmet, Hent, HO⟩
  ihave HA := (all8_sep (fun q d => iprop(Pos c 0 q d ∗ room c (piece d 0 q) ∗ sendTok c 0 q d ∗ rest c 0 q d)) (fun q d => landing (toD d c) d 1 q 0)) $$ [HA Hland]
  · isplitl [HA] <;> iassumption
  ihave HA := hC $$ HA
  unfold both
  icases Hb with ⟨⟨Hc0, Hb0⟩, Hc1, Hb1⟩
  iapply (run_load0 X Y κ ιs c hab _) $$ [Hb0 Hb1 HO]
  · isplitr; · iexact HR
    isplitl [Hb0]; · iexact Hb0
    isplitl [Hb1] <;> iassumption
  iintro ⟨Ho0, Ho1, HO⟩
  have hp := run_prologue X Y κ ιs c (Q := Q)
  unfold C₀ both at hp
  iapply (hp _) $$ [HA HO Ho0 Ho1 Hw]
  · isplitr; · iexact HR
    isplitl [HA]; · iexact HA
    isplitl [HO]; · iexact HO
    isplitr [Hw]; · isplitl [Ho0] <;> iassumption
    iexact Hw
  iintro ⟨HA, HO, ⟨Ho0, Ho1⟩, Hw⟩
  ihave #Hl0 := (left'_zero (F := F) c 0) $$ []
  · iempintro
  ihave #Hl1 := (left'_zero (F := F) c 1) $$ []
  · iempintro
  ihave HB := (show iprop(all8 (St c 0) ∗ ((Cr c 0 0 ∗ left' c 0 0 ∗ Oc X c 0 0) ∗ (Cr c 1 0 ∗ left' c 1 0 ∗ Oc X c 1 0)) ∗ holds c woM (Y c) ∗ Ow c (due 8 0 c))
    ⊢ Before X Y c 0 from .rfl) $$ [HA Hc0 Hc1 Ho0 Ho1 Hw HO]
  · isplitl [HA]; · iexact HA
    isplitr [Hw HO]
    · isplitl [Hc0 Ho0]
      · isplitl [Hc0]; · iexact Hc0
        isplitr; · iexact Hl0
        iexact Ho0
      isplitl [Hc1]; · iexact Hc1
      isplitr; · iexact Hl1
      iexact Ho1
    isplitl [Hw] <;> iassumption
  have hr (t : Fin 7) (ht : t.val < 6) := run_round X Y κ ιs c t ht (Q := Q)
  iapply (hr 0 (by decide) _) $$ [HB]
  · isplitr
    · isplitr; · iexact HR
      iexact Hmet
    iexact HB
  iintro HB
  iapply (hr 1 (by decide) _) $$ [HB]
  · isplitr
    · isplitr; · iexact HR
      iexact Hmet
    iexact HB
  iintro HB
  iapply (hr 2 (by decide) _) $$ [HB]
  · isplitr
    · isplitr; · iexact HR
      iexact Hmet
    iexact HB
  iintro HB
  iapply (hr 3 (by decide) _) $$ [HB]
  · isplitr
    · isplitr; · iexact HR
      iexact Hmet
    iexact HB
  iintro HB
  iapply (hr 4 (by decide) _) $$ [HB]
  · isplitr
    · isplitr; · iexact HR
      iexact Hmet
    iexact HB
  iintro HB
  iapply (hr 5 (by decide) _) $$ [HB]
  · isplitr
    · isplitr; · iexact HR
      iexact Hmet
    iexact HB
  iintro HB
  ihave HB := (show Before X Y c ((5 : Fin 7).val + 1) ⊢ iprop(all8 (St c 6) ∗ ((Cr c 0 24 ∗ left' c 0 24 ∗ Oc X c 0 6) ∗ (Cr c 1 24 ∗ left' c 1 24 ∗ Oc X c 1 6))
    ∗ holds c woM (Y c) ∗ Ow c (due 56 48 c)) from .rfl) $$ HB
  icases HB with ⟨HA, ⟨⟨Hc0, -, Ho0⟩, Hc1, -, Ho1⟩, Hw, HO⟩
  ihave Ho0 := (Oc_Ob X c 0 6) $$ Ho0
  ihave Ho1 := (Oc_Ob X c 1 6) $$ Ho1
  iapply (run_loadT X Y κ ιs c 6 hab' _) $$ [Ho0 Ho1 HO]
  · isplitr; · iexact HR
    isplitl [Ho0]; · iexact Ho0
    isplitl [Ho1]; · iexact Ho1
    iexact HO
  iintro ⟨Ho0, Ho1, HO⟩
  ihave Hout := (outUpto_zero X Y c) $$ Hout
  have hl := run_lasts X Y κ ιs c (Q := Q)
  unfold C₂ both at hl
  iapply (hl _) $$ [HA HO Ho0 Ho1 Hw Hout]
  · isplitr; · iexact HR
    isplitl [HA]; · iexact HA
    isplitl [HO]; · iexact HO
    isplitl [Ho0 Ho1]
    · isplitl [Ho0]; · iexact Ho0
      iexact Ho1
    isplitl [Hw]; · iexact Hw
    iexact Hout
  iintro ⟨HA, HO, ⟨Ho0, Ho1⟩, Hw, Hout⟩
  iapply (run_leave X Y κ ιs c _) $$ [Hml HO]
  · isplitr; · iexact HR
    isplitl [Hml]; · iexact Hml
    isplitr; · iexact Hmet
    iexact HO
  iintro ⟨Hlv, HO⟩
  iapply hfin
  imodintro
  iapply Hk
  isplitr [Hw Hout]
  · isplitl [HA]; · iexact HA
    isplitl [Hc0 Hc1 Ho0 Ho1]
    · isplitl [Hc0 Ho0]; · isplitl [Hc0] <;> iassumption
      isplitl [Hc1] <;> iassumption
    isplitl [Hent]; · iexact Hent
    isplitl [Hlv] <;> iassumption
  isplitl [Hw]; · iexact Hw
  iapply (outUpto_all X Y c); iexact Hout

end Cert.KernelIdeal.Ring

end
-- ==== Proof.Deal.lean ====
/-
  Dealing out what the launch makes: the tokens of all duties, the tokens of the releases and the
  units owed at launch, each to the device that will spend it.
-/
module

public import proofs.«01_k».proof.Proof.Whole

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

/-! ## Regrouping -/

/-- Two statements that give each other are the same. -/
theorem same {P Q : sProp 𝕄} (h : P ⊢ Q) (h' : Q ⊢ P) : P = Q := BI.Entails.antisymm h h'

/-- Over pairs, first component by first component. -/
theorem over_pairs {α β : Type} (s : Finset α) (t : Finset β) (Φ : α × β → sProp 𝕄) :
    bigSep (s ×ˢ t) Φ = bigSep s fun a => bigSep t fun b => Φ (a, b) := by
  classical
  induction s using Finset.induction_on with
  | empty => rw [Finset.empty_product, bigSep_empty, bigSep_empty]
  | insert a s ha ih =>
    have hd : Disjoint ({a} ×ˢ t) (s ×ˢ t) := Finset.disjoint_product.mpr (Or.inl (Finset.disjoint_singleton_left.mpr ha))
    rw [Finset.insert_eq, Finset.union_product, bigSep_union hd, ih, ← Finset.insert_eq, bigSep_insert ha, Finset.singleton_product, bigSep_map]
    rfl

theorem range_snoc (Φ : ℕ → sProp 𝕄) (n : ℕ) : bigSep (Finset.range (n + 1)) Φ = iprop(Φ n ∗ bigSep (Finset.range n) Φ) := by
  rw [Finset.range_add_one]
  exact bigSep_insert Finset.notMem_range_self
theorem range_cons (Φ : ℕ → sProp 𝕄) (n : ℕ) : bigSep (Finset.range (n + 1)) Φ = iprop(Φ 0 ∗ bigSep (Finset.range n) fun k => Φ (k + 1)) := by
  induction n with
  | zero => rw [range_snoc]; rfl
  | succ n ih =>
    rw [range_snoc Φ (n + 1), ih, range_snoc (fun k => Φ (k + 1)) n]
    refine same ?_ ?_
    · iintro ⟨H1, H2, H3⟩
      isplitl [H2]; · iexact H2
      isplitl [H1] <;> iassumption
    · iintro ⟨H1, H2, H3⟩
      isplitl [H2]; · iexact H2
      isplitl [H1] <;> iassumption

theorem all8_eq (A : Fin 4 → Fin 2 → sProp 𝕄) : all8 A = iprop((bigSep Finset.univ fun q => A q 0) ∗ bigSep Finset.univ fun q => A q 1) :=
  same (all8_split A).1 (all8_split A).2

theorem all8_sep_eq (A B : Fin 4 → Fin 2 → sProp 𝕄) : (all8 fun q d => iprop(A q d ∗ B q d)) = iprop(all8 A ∗ all8 B) := by
  rw [all8_eq, all8_eq A, all8_eq B]
  have h : ∀ d, (bigSep Finset.univ fun q => iprop(A q d ∗ B q d)) = iprop((bigSep Finset.univ fun q => A q d) ∗ bigSep Finset.univ fun q => B q d) := fun d => bigSep_sep' _ _ _
  rw [h, h]
  refine same ?_ ?_
  · iintro ⟨⟨H1, H2⟩, H3, H4⟩
    isplitl [H1 H3]; · isplitl [H1] <;> iassumption
    isplitl [H2] <;> iassumption
  · iintro ⟨⟨H1, H3⟩, H2, H4⟩
    isplitl [H1 H2]; · isplitl [H1] <;> iassumption
    isplitl [H3] <;> iassumption

/-- Numbers below `8 n`, by sub-block and direction. -/
theorem deal8 (Φ : ℕ → sProp 𝕄) (n : ℕ) :
    bigSep (Finset.range (8 * n)) Φ ⊢ all8 fun q d => bigSep (Finset.range n) fun k => Φ (num k q d) := by
  induction n with
  | zero =>
    rw [all8_eq, bigSep_four, bigSep_four]
    have e : ∀ q d, (bigSep (Finset.range 0) fun k => Φ (num k q d) : sProp 𝕄) = iprop(emp) := fun q d => by rw [Finset.range_zero]; exact bigSep_empty
    simp only [e]
    iintro -
    isplitr
    · isplitr; · iempintro
      isplitr; · iempintro
      isplitr <;> iempintro
    isplitr; · iempintro
    isplitr; · iempintro
    isplitr <;> iempintro
  | succ n ih =>
    have e : ∀ q d, (bigSep (Finset.range (n + 1)) fun k => Φ (num k q d) : sProp 𝕄) = iprop(Φ (num n q d) ∗ bigSep (Finset.range n) fun k => Φ (num k q d)) :=
      fun q d => range_snoc _ _
    simp only [e]
    rw [show 8 * (n + 1) = 8 * n + 7 + 1 from by omega, range_snoc, range_snoc, range_snoc, range_snoc, range_snoc, range_snoc, range_snoc, range_snoc]
    iintro ⟨H7, H6, H5, H4, H3, H2, H1, H0, H⟩
    ihave H := ih $$ H
    iapply (all8_sep _ _)
    isplitr [H]
    · have e0 : num n 0 0 = 8 * n := by simp [num]
      have en : ∀ (q : Fin 4) (d : Fin 2) (j : ℕ), 2 * q.val + d.val = j → num n q d = 8 * n + j := fun q d j h => by unfold num; omega
      rw [all8_eq, bigSep_four, bigSep_four, e0, en 1 0 2 rfl, en 2 0 4 rfl, en 3 0 6 rfl, en 0 1 1 rfl, en 1 1 3 rfl, en 2 1 5 rfl, en 3 1 7 rfl]
      isplitl [H0 H2 H4 H6]
      · isplitl [H0]; · iexact H0
        isplitl [H2]; · iexact H2
        isplitl [H4]; · iexact H4
        iexact H6
      isplitl [H1]; · iexact H1
      isplitl [H3]; · iexact H3
      isplitl [H5]; · iexact H5
      iexact H7
    iexact H

/-- Numbers below `4 n`, by sub-block. -/
theorem deal4 (Φ : ℕ → sProp 𝕄) (n : ℕ) :
    bigSep (Finset.range (4 * n)) Φ ⊢ bigSep Finset.univ fun q : Fin 4 => bigSep (Finset.range n) fun k => Φ (4 * k + q.val) := by
  rw [bigSep_four]
  induction n with
  | zero =>
    have e : ∀ Ψ : ℕ → sProp 𝕄, bigSep (Finset.range 0) Ψ = iprop(emp) := fun Ψ => by rw [Finset.range_zero]; exact bigSep_empty
    simp only [e]
    iintro -
    isplitr; · iempintro
    isplitr; · iempintro
    isplitr <;> iempintro
  | succ n ih =>
    have e : ∀ Ψ : ℕ → sProp 𝕄, bigSep (Finset.range (n + 1)) Ψ = iprop(Ψ n ∗ bigSep (Finset.range n) Ψ) := fun Ψ => range_snoc _ _
    simp only [e]
    rw [show 4 * (n + 1) = 4 * n + 3 + 1 from by omega, range_snoc, range_snoc, range_snoc, range_snoc]
    iintro ⟨H3, H2, H1, H0, H⟩
    ihave H := ih $$ H
    icases H with ⟨G0, G1, G2, G3⟩
    isplitl [H0 G0]; · isplitl [H0]; · iexact H0
                       iexact G0
    isplitl [H1 G1]; · isplitl [H1]; · iexact H1
                       iexact G1
    isplitl [H2 G2]; · isplitl [H2]; · iexact H2
                       iexact G2
    isplitl [H3]; · iexact H3
    iexact G3

/-- The rounds of two alternating cells, in the order of the transfers. -/
theorem alternate (Φ : Fin 2 → ℕ → sProp 𝕄) :
    iprop(bigSep (Finset.range 8) (Φ 0) ∗ bigSep (Finset.range 8) (Φ 1)) ⊢ bigSep (Finset.range 7) fun k => Φ (sl k) (k / 2) := by
  classical
  have h1 : iprop(bigSep (Finset.range 8) (Φ 0) ∗ bigSep (Finset.range 8) (Φ 1))
      = bigSep (Finset.univ ×ˢ Finset.range 8) fun x : Fin 2 × ℕ => Φ x.1 x.2 := by
    rw [over_pairs]; exact (BI.bigSep_fin_two fun s : Fin 2 => bigSep (Finset.range 8) (Φ s)).symm
  have hinj : Set.InjOn (fun k : ℕ => ((sl k, k / 2) : Fin 2 × ℕ)) (Finset.range 7) := fun a _ b _ h => by
    have h1 : sl a = sl b := congrArg Prod.fst h
    have h2 : a / 2 = b / 2 := congrArg Prod.snd h
    rw [← kS_sl a, ← kS_sl b, h1, h2]
  have hsub : (Finset.range 7).image (fun k : ℕ => ((sl k, k / 2) : Fin 2 × ℕ)) ⊆ Finset.univ ×ˢ Finset.range 8 := fun x hx => by
    obtain ⟨k, hk, rfl⟩ := Finset.mem_image.mp hx
    have := Finset.mem_range.mp hk
    exact Finset.mem_product.mpr ⟨Finset.mem_univ _, Finset.mem_range.mpr (by dsimp only; omega)⟩
  rw [h1]
  have h := bigSep_subset (Φ := fun x : Fin 2 × ℕ => Φ x.1 x.2) hsub
  rw [bigSep_image_of_injOn hinj fun x : Fin 2 × ℕ => Φ x.1 x.2] at h
  exact h

/-- What belongs to each device's cells, handed a step against, or along, the direction. -/
theorem around (Φ : Dev nD → Fin 4 → Fin 2 → sProp 𝕄) :
    (bigSep Finset.univ fun c => all8 (Φ c)) = bigSep Finset.univ fun c => all8 fun q d => Φ (toD d c) q d := by
  simp only [all8_eq]
  rw [bigSep_sep', bigSep_sep', bigSep_univ_equiv (shift 0) (fun c : Dev nD => bigSep Finset.univ fun q => Φ c q 0),
    bigSep_univ_equiv (shift 1) (fun c : Dev nD => bigSep Finset.univ fun q => Φ c q 1)]
  rfl
theorem around' (Φ : Dev nD → Fin 4 → Fin 2 → sProp 𝕄) :
    (bigSep Finset.univ fun c => all8 (Φ c)) = bigSep Finset.univ fun c => all8 fun q d => Φ (fromD d c) q d := by
  simp only [all8_eq]
  rw [bigSep_sep', bigSep_sep', bigSep_univ_equiv (shift 0).symm (fun c : Dev nD => bigSep Finset.univ fun q => Φ c q 0),
    bigSep_univ_equiv (shift 1).symm (fun c : Dev nD => bigSep Finset.univ fun q => Φ c q 1)]
  rfl
theorem around2 (Φ Ψ : Dev nD → sProp 𝕄) :
    (bigSep Finset.univ fun c => iprop(Φ c ∗ Ψ c)) = bigSep Finset.univ fun c => iprop(Φ (left c) ∗ Ψ (right c)) := by
  rw [bigSep_sep', bigSep_sep', bigSep_univ_equiv (shift 1) Φ, bigSep_univ_equiv (shift 0) Ψ]
  rfl

/-- A device's own cells, sub-block by sub-block, and the others. -/
theorem own_eq (Φ : Own → sProp 𝕄) : bigSep Finset.univ Φ = iprop(
    (all8 fun q d => iprop((Φ (.inl (.inl (d, 0, q))) ∗ Φ (.inl (.inl (d, 1, q)))) ∗ Φ (.inl (.inr (d, 0, q))) ∗ Φ (.inl (.inr (d, 1, q)))))
    ∗ (both fun d => iprop(Φ (.inr (.inl (.inl d))) ∗ Φ (.inr (.inl (.inr d))))) ∗ Φ (.inr (.inr ()))) := by
  have hs : ∀ Ψ : Fin 2 × Fin 2 × Fin 4 → sProp 𝕄, bigSep Finset.univ Ψ
      = iprop(((bigSep Finset.univ fun q => Ψ (0, 0, q)) ∗ (bigSep Finset.univ fun q => Ψ (0, 1, q)))
        ∗ (bigSep Finset.univ fun q => Ψ (1, 0, q)) ∗ (bigSep Finset.univ fun q => Ψ (1, 1, q))) := fun Ψ => by
    rw [bigSep_univ_prod, BI.bigSep_fin_two, bigSep_univ_prod, BI.bigSep_fin_two, bigSep_univ_prod, BI.bigSep_fin_two]
    rfl
  have hsum : ∀ {α β : Type} [Fintype α] [Fintype β] (Ψ : α ⊕ β → sProp 𝕄),
      bigSep Finset.univ Ψ = iprop((bigSep Finset.univ fun a => Ψ (.inl a)) ∗ bigSep Finset.univ fun b => Ψ (.inr b)) := fun Ψ => bigSep_univ_sum Ψ
  have h2 : ∀ Ψ : Fin 2 → sProp 𝕄, bigSep Finset.univ Ψ = iprop(Ψ 0 ∗ Ψ 1) := fun Ψ => BI.bigSep_fin_two Ψ
  have h1 : ∀ Ψ : Unit → sProp 𝕄, bigSep Finset.univ Ψ = Ψ () := fun Ψ => bigSep_univ_of_subsingleton ()
  have h8 : ∀ A B C D : Fin 4 → Fin 2 → sProp 𝕄, (all8 fun q d => iprop((A q d ∗ B q d) ∗ C q d ∗ D q d))
      = iprop((all8 A ∗ all8 B) ∗ all8 C ∗ all8 D) := fun A B C D => by
    rw [all8_sep_eq (fun q d => iprop(A q d ∗ B q d)) fun q d => iprop(C q d ∗ D q d), all8_sep_eq A B, all8_sep_eq C D]
  rw [hsum, hsum, hsum, hs, hs, hsum, h2, h2, h1, h8, all8_eq, all8_eq, all8_eq, all8_eq]
  unfold both
  refine same ?_ ?_
  · iintro ⟨⟨⟨⟨A00, A01⟩, A10, A11⟩, ⟨B00, B01⟩, B10, B11⟩, ⟨⟨C0, C1⟩, E0, E1⟩, H⟩
    isplitr [C0 C1 E0 E1 H]
    · isplitl [A00 A01 A10 A11]
      · isplitl [A00 A10]; · isplitl [A00] <;> iassumption
        isplitl [A01] <;> iassumption
      isplitl [B00 B10]; · isplitl [B00] <;> iassumption
      isplitl [B01] <;> iassumption
    isplitr [H]
    · isplitl [C0 E0]; · isplitl [C0] <;> iassumption
      isplitl [C1] <;> iassumption
    iexact H
  · iintro ⟨⟨⟨⟨A00, A10⟩, A01, A11⟩, ⟨B00, B10⟩, B01, B11⟩, ⟨⟨C0, E0⟩, C1, E1⟩, H⟩
    isplitr [C0 C1 E0 E1 H]
    · isplitl [A00 A01 A10 A11]
      · isplitl [A00 A01]; · isplitl [A00] <;> iassumption
        isplitl [A10] <;> iassumption
      isplitl [B00 B01]; · isplitl [B00] <;> iassumption
      isplitl [B10] <;> iassumption
    isplitr [H]
    · isplitl [C0 C1]; · isplitl [C0] <;> iassumption
      isplitl [E0] <;> iassumption
    iexact H

/-! ## The duties' tokens -/

/-- A duty of a cell, of any round below 8 and any name below 24. -/
def tokEmb : Dev nD × Cl × ℕ × ℕ ↪ GSem nD τ sig × ℕ × ℕ :=
  ⟨fun x => (cell x.1 x.2.1, x.2.2), fun x y h => by
    have h1 : cell x.1 x.2.1 = cell y.1 y.2.1 := congrArg Prod.fst h
    exact Prod.ext (congrArg (fun g : GSem nD τ sig => g.1.1) h1)
      (Prod.ext (semOf_inj (congrArg Prod.snd h1)) (congrArg (fun z : GSem nD τ sig × ℕ × ℕ => z.2) h))⟩
def toks : Finset (GSem nD τ sig × ℕ × ℕ) :=
  ((Finset.univ : Finset (Dev nD)) ×ˢ (Finset.univ : Finset Cl) ×ˢ Finset.range 8 ×ˢ Finset.range 24).map tokEmb

/-- The tokens of one cell. -/
def cellToks (c : Dev nD) (cl : Cl) : sProp 𝕄 := bigSep (Finset.range 8) fun r => bigSep (Finset.range 24) fun i => Tok c cl r i

theorem toks_eq : (bigSep toks fun x => dutyTok ER x.1 x.2.1 x.2.2 : sProp 𝕄) = bigSep Finset.univ fun c : Dev nD => bigSep Finset.univ (cellToks c) := by
  unfold toks
  rw [bigSep_map, over_pairs]
  refine bigSep_congr fun c _ => ?_
  rw [over_pairs]
  refine bigSep_congr fun cl _ => ?_
  rw [over_pairs]
  rfl

variable (c : Dev nD)

theorem cellToks_zero (cl : Cl) : (cellToks c cl : sProp 𝕄) ⊢ bigSep (Finset.range 24) fun i => Tok c cl 0 i := by
  unfold cellToks
  exact bigSep_elim (i := 0) (Finset.mem_range.mpr (by decide))
theorem cellToks_one (cl : Cl) : (cellToks c cl : sProp 𝕄) ⊢ bigSep (Finset.range 8) fun r => Tok c cl r 0 := by
  unfold cellToks
  exact bigSep_mono fun r _ => bigSep_elim (i := 0) (Finset.mem_range.mpr (by decide))
theorem cellToks_pair (cl : Cl) : (cellToks c cl : sProp 𝕄) ⊢ iprop(Tok c cl 0 0 ∗ Tok c cl 0 1) := by
  refine (cellToks_zero c cl).trans ?_
  rw [range_cons _ 23, range_cons _ 22]
  iintro ⟨H0, H1, -⟩
  isplitl [H0] <;> iassumption

/-- The tokens of a device's cells, by what they are for. -/
def ownToks : sProp 𝕄 := iprop(
    (all8 fun q d => bigSep (Finset.range 7) fun k => Tok c (.send d (sl k) q) (k / 2) 0)
    ∗ (all8 fun q d => bigSep (Finset.range 7) fun k => Tok c (.recv d (other (sl k)) q) (k / 2) 0)
    ∗ (all8 fun q d => bigSep (Finset.range 6) fun k => Tok c (.credit d) 0 (4 * k + q.val))
    ∗ (both fun d => bigSep (Finset.range 8) fun r => Tok c (.copy d) r 0)
    ∗ (Tok c .enter 0 0 ∗ Tok c .enter 0 1) ∗ (Tok c .leave 0 0 ∗ Tok c .leave 0 1))

theorem ownToks_intro : (bigSep Finset.univ (cellToks c) : sProp 𝕄) ⊢ ownToks c := by
  have hc : (bigSep Finset.univ (cellToks c) : sProp 𝕄)
      = iprop((bigSep Finset.univ fun o : Own => cellToks c (.inl o)) ∗ bigSep Finset.univ fun u : Unit => cellToks c (.inr u)) := bigSep_univ_sum _
  have h1 : (bigSep Finset.univ fun u : Unit => cellToks c (.inr u) : sProp 𝕄) = cellToks c .enter := bigSep_univ_of_subsingleton ()
  have hs : ∀ q d, iprop(cellToks c (.send d 0 q) ∗ cellToks c (.send d 1 q))
      ⊢ (bigSep (Finset.range 7) fun k => Tok c (.send d (sl k) q) (k / 2) 0 : sProp 𝕄) := fun q d =>
    (BI.sep_mono (cellToks_one c _) (cellToks_one c _)).trans (alternate fun s r => Tok c (.send d s q) r 0)
  have hr : ∀ q d, iprop(cellToks c (.recv d 0 q) ∗ cellToks c (.recv d 1 q))
      ⊢ (bigSep (Finset.range 7) fun k => Tok c (.recv d (other (sl k)) q) (k / 2) 0 : sProp 𝕄) := fun q d => by
    have ha : iprop((bigSep (Finset.range 8) fun r => Tok c (.recv d 1 q) r 0) ∗ bigSep (Finset.range 8) fun r => Tok c (.recv d 0 q) r 0)
      ⊢ (bigSep (Finset.range 7) fun k => Tok c (.recv d (other (sl k)) q) (k / 2) 0 : sProp 𝕄) := alternate fun s r => Tok c (.recv d (other s) q) r 0
    iintro ⟨H0, H1⟩
    ihave H0 := (cellToks_one c _) $$ H0
    ihave H1 := (cellToks_one c _) $$ H1
    iapply ha
    isplitl [H1] <;> iassumption
  have hcr : ∀ d, (cellToks c (.credit d) : sProp 𝕄)
      ⊢ bigSep Finset.univ fun q : Fin 4 => bigSep (Finset.range 6) fun k => Tok c (.credit d) 0 (4 * k + q.val) := fun d =>
    (cellToks_zero c _).trans (deal4 (fun i => Tok c (.credit d) 0 i) 6)
  have hall : (all8 fun q d => iprop((cellToks c (.send d 0 q) ∗ cellToks c (.send d 1 q)) ∗ cellToks c (.recv d 0 q) ∗ cellToks c (.recv d 1 q)) : sProp 𝕄)
      ⊢ iprop((all8 fun q d => bigSep (Finset.range 7) fun k => Tok c (.send d (sl k) q) (k / 2) 0)
        ∗ (all8 fun q d => bigSep (Finset.range 7) fun k => Tok c (.recv d (other (sl k)) q) (k / 2) 0)) := by
    exact (all8_mono fun q d => BI.sep_mono (hs q d) (hr q d)).trans (Entails.of_eq (all8_sep_eq _ _))
  rw [hc, h1, own_eq]
  unfold ownToks both
  iintro ⟨⟨H8, ⟨⟨Hc0, Hp0⟩, Hc1, Hp1⟩, Hl⟩, He⟩
  ihave H8 := hall $$ H8
  icases H8 with ⟨Hs, Hr⟩
  isplitl [Hs]; · iexact Hs
  isplitl [Hr]; · iexact Hr
  isplitl [Hc0 Hc1]
  · iapply (all8_split _).2
    isplitl [Hc0]
    · iapply (hcr 0); iexact Hc0
    · iapply (hcr 1); iexact Hc1
  isplitl [Hp0 Hp1]
  · isplitl [Hp0]
    · iapply (cellToks_one c _); iexact Hp0
    · iapply (cellToks_one c _); iexact Hp1
  isplitl [He]; · iapply (cellToks_pair c _); iexact He
  iapply (cellToks_pair c _); iexact Hl

/-- The tokens of the duties a device pays. -/
def paidToks : sProp 𝕄 := iprop(
    (all8 fun q d => bigSep (Finset.range 7) fun k => sendTok c k q d)
    ∗ (all8 fun q d => bigSep (Finset.range 6) fun k => Tok (fromD d c) (.credit d) 0 (4 * k + q.val))
    ∗ (both fun d => bigSep (Finset.range 8) fun r => Tok c (.copy d) r 0)
    ∗ (Tok (left c) .enter 0 0 ∗ Tok (right c) .enter 0 1) ∗ (Tok (left c) .leave 0 0 ∗ Tok (right c) .leave 0 1))

theorem all8_bigSep_sep (A B : ℕ → Fin 4 → Fin 2 → sProp 𝕄) (n : ℕ) :
    iprop((all8 fun q d => bigSep (Finset.range n) fun k => A k q d) ∗ all8 fun q d => bigSep (Finset.range n) fun k => B k q d)
      ⊢ all8 fun q d => bigSep (Finset.range n) fun k => iprop(A k q d ∗ B k q d) :=
  (all8_sep _ _).trans (all8_mono fun q d => Entails.of_eq (bigSep_sep' _ _ _).symm)

theorem toks_deal : (bigSep toks fun x => dutyTok ER x.1 x.2.1 x.2.2 : sProp 𝕄) ⊢ bigSep Finset.univ fun c : Dev nD => paidToks c := by
  rw [toks_eq]
  refine (bigSep_mono fun c _ => ownToks_intro c).trans ?_
  unfold ownToks
  simp only [bigSep_sep' Finset.univ]
  rw [around (fun c q d => bigSep (Finset.range 7) fun k => Tok c (.recv d (other (sl k)) q) (k / 2) 0),
    around' (fun c q d => bigSep (Finset.range 6) fun k => Tok c (.credit d) 0 (4 * k + q.val))]
  simp only [← bigSep_sep' Finset.univ]
  rw [bigSep_sep', bigSep_sep', bigSep_sep', bigSep_sep', bigSep_sep',
    around2 (fun c => Tok c .enter 0 0) (fun c => Tok c .enter 0 1), around2 (fun c => Tok c .leave 0 0) (fun c => Tok c .leave 0 1)]
  simp only [← bigSep_sep' Finset.univ]
  have hp : ∀ (c : Dev nD) (R : sProp 𝕄), iprop((all8 fun q d => bigSep (Finset.range 7) fun k => Tok c (.send d (sl k) q) (k / 2) 0)
      ∗ (all8 fun q d => bigSep (Finset.range 7) fun k => Tok (toD d c) (.recv d (other (sl k)) q) (k / 2) 0) ∗ R)
      ⊢ iprop((all8 fun q d => bigSep (Finset.range 7) fun k => sendTok c k q d) ∗ R) := fun c R => by
    iintro ⟨H1, H2, H⟩
    isplitl [H1 H2]
    · iapply (all8_bigSep_sep (fun k q d => Tok c (.send d (sl k) q) (k / 2) 0) (fun k q d => Tok (toD d c) (.recv d (other (sl k)) q) (k / 2) 0) 7)
      isplitl [H1] <;> iassumption
    iexact H
  exact bigSep_mono fun c _ => hp c _

/-! ## The releases' tokens -/

/-- What a device holds of the releases: its own slots', and the right to take the next devices'. -/
def slotToks : sProp 𝕄 := iprop(
    (all8 fun q d => bigSep (Finset.range 6) fun k => readerAt ES ((c, d, 4 * k + q.val) : Key) 0)
    ∗ (all8 fun q d => bigSep (Finset.range 6) fun k => writeTok ES ((toD d c, d, 4 * k + q.val) : Key) 1))

theorem keys_deal (Φ : Key → sProp 𝕄) :
    bigSep keys Φ ⊢ bigSep Finset.univ fun c : Dev nD => all8 fun q d => bigSep (Finset.range 6) fun k => Φ (c, d, 4 * k + q.val) := by
  rw [over_pairs]
  refine bigSep_mono fun c _ => ?_
  rw [over_pairs]
  have h2 : (bigSep Finset.univ fun d : Fin 2 => bigSep (Finset.range 24) fun i => Φ (c, d, i))
      = iprop((bigSep (Finset.range 24) fun i => Φ (c, 0, i)) ∗ bigSep (Finset.range 24) fun i => Φ (c, 1, i)) := BI.bigSep_fin_two _
  rw [h2, all8_eq]
  exact BI.sep_mono (deal4 (fun i => Φ (c, 0, i)) 6) (deal4 (fun i => Φ (c, 1, i)) 6)

theorem slots_deal : iprop((bigSep keys fun x => readerAt ES x 0) ∗ bigSep (keys ×ˢ Finset.range 1) fun x => writeTok ES x.1 (x.2 + 1))
    ⊢ (bigSep Finset.univ fun c : Dev nD => slotToks c : sProp 𝕄) := by
  have hw : (bigSep (keys ×ˢ Finset.range 1) fun x => writeTok ES x.1 (x.2 + 1) : sProp 𝕄) = bigSep keys fun x => writeTok ES x 1 := by
    rw [over_pairs]
    exact bigSep_congr fun x _ => by rw [show Finset.range 1 = {0} from rfl, bigSep_singleton]
  rw [hw]
  refine (BI.sep_mono (keys_deal _) (keys_deal _)).trans ?_
  rw [around (fun c q d => bigSep (Finset.range 6) fun k => writeTok ES ((c, d, 4 * k + q.val) : Key) 1)]
  unfold slotToks
  exact Entails.of_eq (bigSep_sep' _ _ _).symm

/-! ## The units owed at launch -/

/-- The units coming to a device. -/
def units : sProp 𝕄 := iprop(
    (all8 fun q d => bigSep (Finset.range 7) fun k => recvCred c k q d)
    ∗ (all8 fun q d => bigSep (Finset.range 6) fun k => cred (tallyAt (cell c (.credit d)) (num k q d) 1))
    ∗ cred (tallyAt (cell c .enter) 0 2) ∗ cred (tallyAt (cell c .leave) 0 2))

theorem unit_recv (m : ℕ) : (Pipeline.launchCred (owesT m) c : sProp 𝕄)
    ⊢ cred (tallyAt (cell c (.recv (dirOf m) (other (sl (m / 8))) (subOf (m / 2)))) m (amount (.recv (dirOf m) (other (sl (m / 8))) (subOf (m / 2))))) :=
  Pipeline.launchCred_tallyAt (semOf (.recv (dirOf m) (other (sl (m / 8))) (subOf (m / 2)))) (toD (dirOf m)) (fromD (dirOf m)) (to_from _) (from_to _) m _ c
theorem unit_credit (j : ℕ) : (Pipeline.launchCred (owesC j) c : sProp 𝕄) ⊢ cred (tallyAt (cell c (.credit (dirOf j))) j 1) :=
  Pipeline.launchCred_tallyAt (semOf (.credit (dirOf j))) (fromD (dirOf j)) (toD (dirOf j)) (from_to _) (to_from _) j _ c
theorem unit_meet (cl : Cl) : (Pipeline.launchCred (owesX cl) c : sProp 𝕄) ⊢ cred (tallyAt (cell c cl) 0 2) := by
  have h1 : (Pipeline.launchCred (fun d => tallyAt (cell (left d) cl) 0 1) c : sProp 𝕄) ⊢ cred (tallyAt (cell c cl) 0 1) :=
    Pipeline.launchCred_tallyAt (semOf cl) left right left_right right_left 0 1 c
  have h2 : (Pipeline.launchCred (fun d => tallyAt (cell (right d) cl) 0 1) c : sProp 𝕄) ⊢ cred (tallyAt (cell c cl) 0 1) :=
    Pipeline.launchCred_tallyAt (semOf cl) right left right_left left_right 0 1 c
  have h3 : (tallyAt (cell c cl) 0 1 + tallyAt (cell c cl) 0 1 : CellTallies nD τ sig ℕ) = tallyAt (cell c cl) 0 2 := tallyAt_add _ _ 1 1
  rw [← h3]
  show Pipeline.launchCred (fun d => tallyAt (cell (left d) cl) 0 1 + tallyAt (cell (right d) cl) 0 1) c ⊢ _
  rw [Pipeline.launchCred_add]
  exact (BI.sep_mono h1 h2).trans (cred_add _ _).2

theorem units_intro : (Pipeline.launchCred due₀ c : sProp 𝕄) ⊢ units c := by
  have e : (Pipeline.launchCred due₀ c : sProp 𝕄) = iprop((((bigSep (Finset.range (8 * 7)) fun m => Pipeline.launchCred (owesT m) c)
      ∗ bigSep (Finset.range (8 * 6)) fun j => Pipeline.launchCred (owesC j) c) ∗ Pipeline.launchCred (owesX .leave) c) ∗ Pipeline.launchCred (owesX .enter) c) := by
    show Pipeline.launchCred (fun d => (∑ m ∈ Finset.Ico 0 56, owesT m d + ∑ j ∈ Finset.Ico 0 48, owesC j d + owesX .leave d) + owesX .enter d) c = _
    rw [Pipeline.launchCred_add, Pipeline.launchCred_add, Pipeline.launchCred_add, Pipeline.launchCred_sum, Pipeline.launchCred_sum,
      ← Finset.range_eq_Ico, ← Finset.range_eq_Ico]
  have hT : (bigSep (Finset.range (8 * 7)) fun m => Pipeline.launchCred (owesT m) c : sProp 𝕄)
      ⊢ all8 fun q d => bigSep (Finset.range 7) fun k => recvCred c k q d := by
    refine (deal8 _ 7).trans (all8_mono fun q d => bigSep_mono fun k _ => ?_)
    have h := unit_recv (F := F) c (num k q d)
    rw [dirOf_num, num_div, subOf_num] at h
    exact h
  have hC : (bigSep (Finset.range (8 * 6)) fun j => Pipeline.launchCred (owesC j) c : sProp 𝕄)
      ⊢ all8 fun q d => bigSep (Finset.range 6) fun k => cred (tallyAt (cell c (.credit d)) (num k q d) 1) := by
    refine (deal8 _ 6).trans (all8_mono fun q d => bigSep_mono fun k _ => ?_)
    have h := unit_credit (F := F) c (num k q d)
    rw [dirOf_num] at h
    exact h
  rw [e]
  unfold units
  iintro ⟨⟨⟨HT, HC⟩, Hl⟩, He⟩
  isplitl [HT]; · iapply hT; iexact HT
  isplitl [HC]; · iapply hC; iexact HC
  isplitl [He]; · iapply (unit_meet c .enter); iexact He
  iapply (unit_meet c .leave); iexact Hl

/-! ## What a sub-block's rounds spend -/

theorem rest_intro :
    iprop((all8 fun q d => bigSep (Finset.range 7) fun k => sendTok c k q d)
        ∗ (all8 fun q d => bigSep (Finset.range 6) fun k => Tok (fromD d c) (.credit d) 0 (4 * k + q.val))
        ∗ slotToks c ∗ (all8 fun q d => bigSep (Finset.range 7) fun k => recvCred c k q d)
        ∗ (all8 fun q d => bigSep (Finset.range 6) fun k => cred (tallyAt (cell c (.credit d)) (num k q d) 1)))
      ⊢ (all8 fun q d => iprop(sendTok c 0 q d ∗ rest c 0 q d) : sProp 𝕄) := by
  have h : ∀ q d, iprop((bigSep (Finset.range 7) fun k => sendTok c k q d)
        ∗ (bigSep (Finset.range 6) fun k => Tok (fromD d c) (.credit d) 0 (4 * k + q.val))
        ∗ (bigSep (Finset.range 6) fun k => readerAt ES ((c, d, 4 * k + q.val) : Key) 0)
        ∗ (bigSep (Finset.range 6) fun k => writeTok ES ((toD d c, d, 4 * k + q.val) : Key) 1)
        ∗ (bigSep (Finset.range 7) fun k => recvCred c k q d)
        ∗ (bigSep (Finset.range 6) fun k => cred (tallyAt (cell c (.credit d)) (num k q d) 1)))
      ⊢ (iprop(sendTok c 0 q d ∗ rest c 0 q d) : sProp 𝕄) := fun q d => by
    unfold rest stock
    rw [range_cons (fun k => sendTok c k q d) 6, range_snoc (fun k => recvCred c k q d) 6, ← Finset.range_eq_Ico]
    simp only [bigSep_sep']
    iintro ⟨⟨H1, H2⟩, H3, H4, H5, ⟨H6, H7⟩, H8⟩
    isplitl [H1]; · iexact H1
    isplitr [H6]
    · isplitl [H7]; · iexact H7
      isplitl [H3]; · iexact H3
      isplitl [H8]; · iexact H8
      isplitl [H4]; · iexact H4
      isplitl [H5]; · iexact H5
      iexact H2
    iexact H6
  unfold slotToks
  iintro ⟨H1, H2, ⟨H3, H4⟩, H5, H6⟩
  iapply (all8_mono h)
  iapply (all8_sep _ _); isplitl [H1]; · iexact H1
  iapply (all8_sep _ _); isplitl [H2]; · iexact H2
  iapply (all8_sep _ _); isplitl [H3]; · iexact H3
  iapply (all8_sep _ _); isplitl [H4]; · iexact H4
  iapply (all8_sep _ _); isplitl [H5] <;> iassumption

end Cert.KernelIdeal.Ring

end
-- ==== Proof.Buffers.lean ====
/-
  The scoped buffers of the body as the pieces that the protocol deals in, and the operand as the
  halves of its share that the two directions copy from.
-/
module

public import proofs.«01_k».proof.Proof.Whole
public import proofs.«01_k».proof.Proof.Gen.KernelIdeal.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

instance : Nonempty (Elt F .f32) := ⟨FloatOps.ofBits (F := F) .f32 0⟩

/-! ## A buffer of two slots, cut into sub-blocks -/

section Cut

variable {W : ℕ} (M : Memref sig .tc .vmem ⟨4, ![2, 4, 256, W]⟩ .f32)

/-- A place of the buffer is in a sub-block if it has the slot and a column of it. -/
theorem mem_subBlock (s : Fin 2) (o : ℕ) (hP) (x : (⟨4, ![2, 4, 256, W]⟩ : Shape).Idx) :
    M.view.emb x ∈ (subBlock M s o hP).view.set ↔ (x 0).val = s.val ∧ o ≤ (x 3).val ∧ (x 3).val < o + 512 := by
  have he : ∀ j : S4x256x512.Idx, (subBlock M s o hP).view.emb j
      = M.view.emb ((Rect.unit (s := ⟨4, ![2, 4, 256, W]⟩) ![s.val, 0, 0, o] S1x4x256x512.size hP).emb (Fin.cons ⟨0, Nat.one_pos⟩ j : S1x4x256x512.Idx)) := fun j => by
    show M.view.emb ((Rect.unit (s := ⟨4, ![2, 4, 256, W]⟩) ![s.val, 0, 0, o] S1x4x256x512.size hP).emb
        (Shape.reshapeEquiv (squeezes_S1x4x256x512_S4x256x512 : S1x4x256x512.Squeezes S4x256x512).numel_eq j)) = _
    rw [Shape.reshapeEquiv_cons_one (n := 3) (d := ![4, 256, 512])]
  constructor
  · intro h
    obtain ⟨j, -, hj⟩ := Finset.mem_map.mp h
    have hj := M.view.emb.injective ((he j).symm.trans hj)
    subst hj
    have h3 : (j 2).val < 512 := (j 2).isLt
    refine ⟨?_, ?_, ?_⟩
    · show s.val + 1 * 0 = s.val
      omega
    · show o ≤ o + 1 * (j 2).val
      omega
    · show o + 1 * (j 2).val < o + 512
      omega
  · rintro ⟨h0, h1, h2⟩
    have hx : x = (Rect.unit (s := ⟨4, ![2, 4, 256, W]⟩) ![s.val, 0, 0, o] S1x4x256x512.size hP).emb
        (Fin.cons ⟨0, Nat.one_pos⟩ (fun a => match a with | 0 => x 1 | 1 => x 2 | 2 => ⟨(x 3).val - o, show (x 3).val - o < 512 by omega⟩ : S4x256x512.Idx) : S1x4x256x512.Idx) := by
      funext a
      apply Fin.ext
      fin_cases a
      · show (x 0).val = s.val + 1 * 0
        omega
      · show (x 1).val = 0 + 1 * (x 1).val
        omega
      · show (x 2).val = 0 + 1 * (x 2).val
        omega
      · show (x 3).val = o + 1 * ((x 3).val - o)
        omega
    rw [hx, ← he]
    exact View.emb_mem_set _ _

variable {T : Type} [Fintype T] [DecidableEq T] (s : T → Fin 2) (o : T → ℕ)
variable (hP : ∀ t a, (![(s t).val, 0, 0, o t] : Fin 4 → ℕ) a + S1x4x256x512.size a ≤ (⟨4, ![2, 4, 256, W]⟩ : Shape).size a)

/-- The places of a sub-block, as places of the buffer. -/
abbrev cutSet (t : T) : Finset M.view.ty.Idx := (subBlock M (s t) (o t) (hP t)).view.set

theorem cut_disjoint (hd : ∀ t t', t ≠ t' → s t = s t' → o t + 512 ≤ o t' ∨ o t' + 512 ≤ o t) :
    ∀ t ∈ (Finset.univ : Finset T), ∀ t' ∈ (Finset.univ : Finset T), t ≠ t' →
      Disjoint (cutSet M s o hP t) (cutSet M s o hP t') := by
  intro t _ t' _ hne
  rw [Finset.disjoint_left]
  intro y hy hy'
  obtain ⟨j, -, rfl⟩ := Finset.mem_map.mp hy
  have h1 := (mem_subBlock M (s t) (o t) (hP t) _).mp (View.emb_mem_set (subBlock M (s t) (o t) (hP t)).view j)
  have h2 := (mem_subBlock M (s t') (o t') (hP t') _).mp hy'
  rcases hd t t' hne (Fin.ext (h1.1.symm.trans h2.1)) with h | h <;> omega

theorem cut_cover (hw : M.view.set = Finset.univ)
    (hc : ∀ (a : Fin 2) (n : ℕ), n < W → ∃ t, s t = a ∧ o t ≤ n ∧ n < o t + 512) :
    (Finset.univ : Finset T).biUnion (cutSet M s o hP) = Finset.univ := by
  refine Finset.eq_univ_iff_forall.mpr fun y => ?_
  have hy : y ∈ M.view.set := by rw [hw]; exact Finset.mem_univ _
  obtain ⟨x, -, rfl⟩ := Finset.mem_map.mp hy
  obtain ⟨t, h0, h1, h2⟩ := hc (x 0) (x 3).val (x 3).isLt
  exact Finset.mem_biUnion.mpr ⟨t, Finset.mem_univ _, (mem_subBlock M (s t) (o t) (hP t) x).mpr ⟨congrArg Fin.val h0.symm, h1, h2⟩⟩

/-- The buffer, whole, is its sub-blocks. -/
theorem cut (c : Dev nD) (hw : M.view.set = Finset.univ)
    (hd : ∀ t t', t ≠ t' → s t = s t' → o t + 512 ≤ o t' ∨ o t' + 512 ≤ o t)
    (hc : ∀ (a : Fin 2) (n : ℕ), n < W → ∃ t, s t = a ∧ o t ≤ n ∧ n < o t + 512) :
    (iprop(∃ f : Buf (Elt F) (M.view.loc (c : Thread nD τ)), M.view.loc (c : Thread nD τ) ↦{fullShare} f) : sProp 𝕄)
      ⊢ bigSep Finset.univ fun t => room c (subBlock M (s t) (o t) (hP t)) := by
  iintro ⟨%f, H⟩
  have h0 : ∀ t, (M.view.loc (c : Thread nD τ) ↦[cutSet M s o hP t]{fullShare} f : sProp 𝕄) ⊢ room c (subBlock M (s t) (o t) (hP t)) := fun t => by
    unfold room
    iintro H
    iexists f; iexact H
  have h1 : (M.view.loc (c : Thread nD τ) ↦{fullShare} f : sProp 𝕄)
      = bigSep Finset.univ fun t => M.view.loc (c : Thread nD τ) ↦[cutSet M s o hP t]{fullShare} f := by
    rw [← pointsTo_biUnion _ _ (cut_disjoint M s o hP hd), cut_cover M s o hP hw hc]
  have h2 : (bigSep Finset.univ fun t => (M.view.loc (c : Thread nD τ) ↦[cutSet M s o hP t]{fullShare} f : sProp 𝕄))
      ⊢ bigSep Finset.univ fun t => room c (subBlock M (s t) (o t) (hP t)) := bigSep_mono fun t _ => h0 t
  ihave H := (Entails.of_eq h1) $$ H
  iapply h2; iexact H

/-- And back. -/
theorem uncut (c : Dev nD) (hw : M.view.set = Finset.univ) (hn : Nonempty (Buf (Elt F) (M.view.loc (c : Thread nD τ))))
    (hd : ∀ t t', t ≠ t' → s t = s t' → o t + 512 ≤ o t' ∨ o t' + 512 ≤ o t)
    (hc : ∀ (a : Fin 2) (n : ℕ), n < W → ∃ t, s t = a ∧ o t ≤ n ∧ n < o t + 512) :
    (bigSep Finset.univ fun t => room c (subBlock M (s t) (o t) (hP t)) : sProp 𝕄)
      ⊢ iprop(∃ f : Buf (Elt F) (M.view.loc (c : Thread nD τ)), M.view.loc (c : Thread nD τ) ↦{fullShare} f) := by
  have h1 : (bigSep Finset.univ fun t => room c (subBlock M (s t) (o t) (hP t)) : sProp 𝕄)
      ⊢ iprop(∃ fs : T → Buf (Elt F) (M.view.loc (c : Thread nD τ)),
          bigSep Finset.univ fun t => M.view.loc (c : Thread nD τ) ↦[cutSet M s o hP t]{fullShare} fs t) :=
    bigSep_exists_pi (Y := fun _ : T => Buf (Elt F) (M.view.loc (c : Thread nD τ))) Finset.univ
      fun t f => M.view.loc (c : Thread nD τ) ↦[cutSet M s o hP t]{fullShare} f
  iintro H
  ihave H := h1 $$ H
  icases H with ⟨%fs, H⟩
  ihave H := (pointsTo_biUnion_join Finset.univ _ fs hn.some (cut_disjoint M s o hP hd)) $$ H
  icases H with ⟨%g, -, H⟩
  iexists g
  iapply (Entails.of_eq (show (M.view.loc (c : Thread nD τ) ↦[Finset.univ.biUnion (cutSet M s o hP)]{fullShare} g : sProp 𝕄)
    = (M.view.loc (c : Thread nD τ) ↦{fullShare} g) from by rw [cut_cover M s o hP hw hc]))
  iexact H

end Cut

/-! ## The body's buffers -/

theorem comm_univ (d : Fin 2) : (comm d).view.set = Finset.univ := by
  fin_cases d <;> exact View.set_whole _

theorem comm_disjoint (t t' : Fin 4 × Fin 2) (h : t ≠ t') (hs : t.2 = t'.2) : 512 * t.1.val + 512 ≤ 512 * t'.1.val ∨ 512 * t'.1.val + 512 ≤ 512 * t.1.val := by
  rcases Nat.lt_trichotomy t.1.val t'.1.val with h1 | h1 | h1
  · left; omega
  · exact absurd (Prod.ext (Fin.ext h1) hs) h
  · right; omega
theorem comm_cover (a : Fin 2) (n : ℕ) (h : n < 2048) : ∃ t : Fin 4 × Fin 2, t.2 = a ∧ 512 * t.1.val ≤ n ∧ n < 512 * t.1.val + 512 :=
  ⟨(⟨n / 512, by omega⟩, a), rfl, by dsimp only; omega, by dsimp only; omega⟩

variable (c : Dev nD)

/-- A communication buffer, whole at some contents. -/
def commAny (d : Fin 2) : sProp 𝕄 :=
  iprop(∃ f : Buf (Elt F) ((comm d).view.loc (c : Thread nD τ)), (comm d).view.loc (c : Thread nD τ) ↦{fullShare} f)

theorem pieces_of (d : Fin 2) :
    (bigSep Finset.univ fun t : Fin 4 × Fin 2 => room c (subBlock (comm d) t.2 (512 * t.1.val) (inbC t.2 t.1)) : sProp 𝕄)
      = bigSep Finset.univ fun q : Fin 4 => iprop(room c (piece d 0 q) ∗ room c (piece d 1 q)) := by
  rw [bigSep_univ_prod]
  exact bigSep_congr fun q _ => BI.bigSep_fin_two fun s : Fin 2 => (room c (piece d s q) : sProp 𝕄)

theorem comm_cut (d : Fin 2) : (commAny c d : sProp 𝕄) ⊢ bigSep Finset.univ fun q : Fin 4 => iprop(room c (piece d 0 q) ∗ room c (piece d 1 q)) := by
  rw [← pieces_of]
  exact cut (comm d) (fun t : Fin 4 × Fin 2 => t.2) (fun t => 512 * t.1.val) (fun t => inbC t.2 t.1) c (comm_univ d) comm_disjoint comm_cover
theorem comm_uncut (d : Fin 2) : (bigSep Finset.univ fun q : Fin 4 => iprop(room c (piece d 0 q) ∗ room c (piece d 1 q)) : sProp 𝕄) ⊢ commAny c d := by
  rw [← pieces_of]
  have hn : Nonempty (Buf (Elt F) ((comm d).view.loc (c : Thread nD τ))) := by
    fin_cases d <;> exact ⟨fun _ => Classical.choice (inferInstance : Nonempty (Elt F .f32))⟩
  exact uncut (comm d) (fun t : Fin 4 × Fin 2 => t.2) (fun t => 512 * t.1.val) (fun t => inbC t.2 t.1) c (comm_univ d) hn comm_disjoint comm_cover

/-- The buffer of chunks, whole at some contents. -/
def obufAny : sProp 𝕄 :=
  iprop(∃ f : Buf (Elt F) (obuf.view.loc (c : Thread nD τ)), obuf.view.loc (c : Thread nD τ) ↦{fullShare} f)

theorem obuf_cut : (obufAny c : sProp 𝕄) ⊢ both fun d => room c (oPiece d) := by
  have h := cut (F := F) obuf (fun d : Fin 2 => d) (fun _ => 0) inbO c (View.set_whole _) (fun t t' h hs => absurd hs h)
    (fun a n hn => ⟨a, rfl, Nat.zero_le _, by omega⟩)
  exact h.trans (Entails.of_eq (BI.bigSep_fin_two fun d : Fin 2 => (room c (oPiece d) : sProp 𝕄)))
theorem obuf_uncut : (both fun d => room c (oPiece d) : sProp 𝕄) ⊢ obufAny c := by
  have h := uncut (F := F) obuf (fun d : Fin 2 => d) (fun _ => 0) inbO c (View.set_whole _)
    ⟨fun _ => Classical.choice (inferInstance : Nonempty (Elt F .f32))⟩ (fun t t' h hs => absurd hs h)
    (fun a n hn => ⟨a, rfl, Nat.zero_le _, by omega⟩)
  exact (Entails.of_eq (BI.bigSep_fin_two fun d : Fin 2 => (room c (oPiece d) : sProp 𝕄)).symm).trans h

/-- The pieces of all three. -/
def pieces : sProp 𝕄 :=
  iprop((all8 fun q d => iprop(room c (piece d 0 q) ∗ room c (piece d 1 q))) ∗ both fun d => room c (oPiece d))

theorem scoped_eq : (Pipeline.scopedRest spec0 c : sProp 𝕄) = iprop(obufAny c ∗ commAny c 0 ∗ commAny c 1) := scopedRest0_eq c
theorem scoped_cut : (Pipeline.scopedRest spec0 c : sProp 𝕄) ⊢ pieces c := by
  rw [scoped_eq]
  unfold pieces
  iintro ⟨H0, H1, H2⟩
  isplitl [H1 H2]
  · iapply (all8_split _).2
    isplitl [H1]
    · iapply (comm_cut c 0); iexact H1
    · iapply (comm_cut c 1); iexact H2
  · iapply (obuf_cut c); iexact H0
theorem scoped_uncut : (pieces c : sProp 𝕄) ⊢ Pipeline.scopedRest spec0 c := by
  rw [scoped_eq]
  unfold pieces
  iintro ⟨H, H0⟩
  ihave H := (all8_split _).1 $$ H
  icases H with ⟨H1, H2⟩
  isplitl [H0]; · iapply (obuf_uncut c); iexact H0
  isplitl [H1]; · iapply (comm_uncut c 0); iexact H1
  iapply (comm_uncut c 1); iexact H2

variable (X : Dev nD → (main_v1 : Ref sig .tc).ty.Contents (Elt F))

/-- The operand, whole, is the two halves of its share. -/
theorem operand_halves : ((c : Thread nD τ).loc main_v1 ↦{fullShare} X c : sProp 𝕄) ⊣⊢ both fun d => operand X c d Finset.univ :=
  pointsTo_share (PosShare.mem_left_op_right fullShare)

end Cert.KernelIdeal.Ring

end
-- ==== Proof.Cells.lean ====
/-
  Opening a device's cells when its call starts and closing them when it ends.
-/
module

public import proofs.«01_k».proof.Proof.Deal
public import proofs.«01_k».proof.Proof.Buffers

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (X : Dev nD → (main_v1 : Ref sig .tc).ty.Contents (Elt F)) (Y : Dev nD → S512x4096.Idx → Elt F .f32)
variable (κ : GSem nD τ sig → ℕ) (ιs : Key → ℕ)

/-! ## All cells -/

/-- The semaphores of the call's own cells. -/
abbrev osem (o : Own) : SemLoc sig := semOf (.inl o)

def enterEmb : Dev nD ↪ GSem nD τ sig := ⟨fun c => cell c .enter, fun _ _ h => congrArg (fun g : GSem nD τ sig => g.1.1) h⟩
def ownEmb : Dev nD × Own ↪ GSem nD τ sig :=
  ⟨fun x => cell x.1 (.inl x.2), fun x y h => by
    have h2 : (Sum.inl x.2 : Cl) = Sum.inl y.2 := semOf_inj (congrArg Prod.snd h)
    exact Prod.ext (congrArg (fun g : GSem nD τ sig => g.1.1) h) (Sum.inl.inj h2)⟩
/-- The cells of the opening exchange, live from the launch on. -/
def enterCells : Finset (GSem nD τ sig) := Finset.univ.map enterEmb
/-- The cells of the call's own semaphores, asleep until the call. -/
def ownCells : Finset (GSem nD τ sig) := Finset.univ.map ownEmb

theorem enter_own : Disjoint enterCells ownCells := by
  rw [Finset.disjoint_left]
  rintro g h₁ h₂
  obtain ⟨c, -, rfl⟩ := Finset.mem_map.mp h₁
  obtain ⟨x, -, h⟩ := Finset.mem_map.mp h₂
  have h2 : (Sum.inl x.2 : Cl) = Sum.inr () := semOf_inj (congrArg Prod.snd h)
  exact absurd h2 (by simp)

theorem cell_mem (x : Dev nD × Cl) : cell x.1 x.2 ∈ enterCells ∪ ownCells := by
  obtain ⟨c, o | u⟩ := x
  · exact Finset.mem_union_right _ (Finset.mem_map_of_mem ownEmb (Finset.mem_univ (c, o)))
  · exact Finset.mem_union_left _ (Finset.mem_map_of_mem enterEmb (Finset.mem_univ c))

theorem invs_all : (bigSep (enterCells ∪ ownCells) fun g => cellInv ER (Rd X Y) (κ g) g)
    ⊢ (bigSep Finset.univ fun x : Dev nD × Cl => cellInv ER (Rd X Y) (κ (cell x.1 x.2)) (cell x.1 x.2) : sProp 𝕄) := by
  classical
  refine (bigSep_of_persistent (Finset.univ : Finset (Dev nD × Cl)) _).trans (bigSep_mono fun x _ => ?_)
  exact bigSep_elim (cell_mem x)

variable (c : Dev nD)

/-- What a device holds between the launch and its call. -/
def asleep : sProp 𝕄 := iprop(
    (bigSep Finset.univ fun o : Own => openTok ER (cell c (.inl o))) ∗ atPos ER (cell c .enter) 0 ∅ 0 ∗ paidToks c ∗ slotToks c ∗ units c
    ∗ (□ (reached ER (cell (left c) .enter) 0 ∗ reached ER (cell (right c) .enter) 0)))
/-- And once its own cells are open. -/
def awake : sProp 𝕄 := iprop(
    (bigSep Finset.univ fun o : Own => At c (.inl o) 0) ∗ atPos ER (cell c .enter) 0 ∅ 0 ∗ paidToks c ∗ slotToks c ∗ units c
    ∗ (□ (reached ER (cell (left c) .enter) 0 ∗ reached ER (cell (right c) .enter) 0)))

theorem wake : iprop(Recs X Y κ ιs ∗ asleep c ∗ Pipeline.ownSems0 osem c) ⊢ (|={Set.univ}=> awake c : sProp 𝕄) := by
  classical
  have h1 : ∀ o ∈ (Finset.univ : Finset Own), iprop(Recs X Y κ ιs ∗ (openTok ER (cell c (.inl o)) ∗ semVal (cell c (.inl o)) 0))
      ⊢ (|={Set.univ}=> At c (.inl o) 0 : sProp 𝕄) := fun o _ => by
    iintro ⟨#HR, Ho, Hv⟩
    unfold At
    iapply (cell_open ER (Rd X Y) (Set.mem_univ (κ (cell c (.inl o)))))
    isplitr; · iapply (Recs_cell X Y κ ιs c (.inl o)); iexact HR
    isplitl [Ho] <;> iassumption
  have h2 : iprop(Recs X Y κ ιs ∗ ((bigSep Finset.univ fun o : Own => openTok ER (cell c (.inl o))) ∗ bigSep Finset.univ fun o : Own => semVal (cell c (.inl o)) 0))
      ⊢ (|={Set.univ}=> bigSep Finset.univ fun o : Own => At c (.inl o) 0 : sProp 𝕄) := by
    rw [← bigSep_sep']
    exact (bigSep_with_persistent h1).trans (bigSep_fupd _ _)
  have h3 : (Pipeline.ownSems0 osem c : sProp 𝕄) = bigSep Finset.univ fun o : Own => semVal (cell c (.inl o)) 0 := rfl
  rw [h3]
  unfold asleep awake
  iintro ⟨#HR, ⟨Ho, H⟩, Hv⟩
  imod h2 $$ [Ho Hv] with HA
  · isplitr; · iexact HR
    isplitl [Ho] <;> iassumption
  imodintro
  isplitl [HA]; · iexact HA
  iexact H

/-- An open device with its buffers can start. -/
theorem start_intro : iprop(awake c ∗ pieces c ∗ (both fun d => operand X c d Finset.univ) ∗ Ow c (due₀ c)) ⊢ (Start X c : sProp 𝕄) := by
  have h8 : ∀ q d, iprop(((At c (.send d 0 q) 0 ∗ At c (.send d 1 q) 0) ∗ At c (.recv d 0 q) 0 ∗ At c (.recv d 1 q) 0)
        ∗ (room c (piece d 0 q) ∗ room c (piece d 1 q)) ∗ (sendTok c 0 q d ∗ rest c 0 q d))
      ⊢ (iprop((Pos c 0 q d ∗ room c (piece d 0 q) ∗ sendTok c 0 q d ∗ rest c 0 q d) ∗ landing c d 1 q 0) : sProp 𝕄) := fun q d => by
    have hp : (Pos c 0 q d : sProp 𝕄) = iprop(At c (.send d 0 q) 0 ∗ At c (.send d 1 q) 0 ∗ At c (.recv d 1 q) 0 ∗ At c (.recv d 0 q) 0) := rfl
    rw [hp]
    unfold At landing
    iintro ⟨⟨⟨⟨A0, #R0⟩, A1, #R1⟩, ⟨B0, #T0⟩, B1, #T1⟩, ⟨H0, H1⟩, Hs, Hr⟩
    isplitr [H1]
    · isplitl [A0 A1 B0 B1]
      · isplitl [A0]; · isplitl [A0]; · iexact A0
                        iexact R0
        isplitl [A1]; · isplitl [A1]; · iexact A1
                        iexact R1
        isplitl [B1]; · isplitl [B1]; · iexact B1
                        iexact T1
        isplitl [B0]; · iexact B0
        iexact T0
      isplitl [H0]; · iexact H0
      isplitl [Hs] <;> iassumption
    isplitl [H1]; · iexact H1
    iexact T1
  have h2 : ∀ d, iprop((At c (.credit d) 0 ∗ At c (.copy d) 0) ∗ room c (oPiece d) ∗ operand X c d Finset.univ ∗ bigSep (Finset.range 8) fun r => Tok c (.copy d) r 0)
      ⊢ (iprop((Cr c d 0 ∗ Ob X c d 0) ∗ reached ER (cell c (.credit d)) 0) : sProp 𝕄) := fun d => by
    unfold Cr Ob At
    rw [Finset.range_eq_Ico]
    iintro ⟨⟨⟨A, #R⟩, B⟩, H1, H2, H3⟩
    isplitl
    · isplitl [A]
      · iexists (∅ : Finset ℕ)
        isplitr; · ipureintro; exact ⟨Finset.empty_subset _, by decide⟩
        isplitl [A]; · iexact A
        rw [bigSep_empty]; iempintro
      isplitl [B]; · iexact B
      isplitl [H1]; · iexact H1
      isplitl [H2] <;> iassumption
    iexact R
  have hA : (bigSep Finset.univ fun o : Own => At c (.inl o) 0 : sProp 𝕄) = iprop(
      (all8 fun q d => iprop((At c (.send d 0 q) 0 ∗ At c (.send d 1 q) 0) ∗ At c (.recv d 0 q) 0 ∗ At c (.recv d 1 q) 0))
      ∗ (both fun d => iprop(At c (.credit d) 0 ∗ At c (.copy d) 0)) ∗ At c .leave 0) := own_eq _
  have hl : (At c .leave 0 : sProp 𝕄) = iprop(atPos ER (cell c .leave) 0 ∅ 0 ∗ reached ER (cell c .leave) 0) := rfl
  have hs8 : iprop((all8 fun q d => iprop((At c (.send d 0 q) 0 ∗ At c (.send d 1 q) 0) ∗ At c (.recv d 0 q) 0 ∗ At c (.recv d 1 q) 0))
        ∗ (all8 fun q d => iprop(room c (piece d 0 q) ∗ room c (piece d 1 q))) ∗ (all8 fun q d => iprop(sendTok c 0 q d ∗ rest c 0 q d)))
      ⊢ (iprop((all8 fun q d => iprop(Pos c 0 q d ∗ room c (piece d 0 q) ∗ sendTok c 0 q d ∗ rest c 0 q d)) ∗ all8 fun q d => landing c d 1 q 0) : sProp 𝕄) := by
    rw [← all8_sep_eq (fun q d => iprop(Pos c 0 q d ∗ room c (piece d 0 q) ∗ sendTok c 0 q d ∗ rest c 0 q d)) fun q d => landing c d 1 q 0]
    iintro ⟨H1, H2, H3⟩
    iapply (all8_mono h8)
    iapply (all8_sep _ _); isplitl [H1]; · iexact H1
    iapply (all8_sep _ _); isplitl [H2] <;> iassumption
  have hs2 : iprop((both fun d => iprop(At c (.credit d) 0 ∗ At c (.copy d) 0)) ∗ (both fun d => room c (oPiece d)) ∗ (both fun d => operand X c d Finset.univ)
        ∗ both fun d => bigSep (Finset.range 8) fun r => Tok c (.copy d) r 0)
      ⊢ (iprop(both (fun d => iprop(Cr c d 0 ∗ Ob X c d 0)) ∗ both fun d => reached ER (cell c (.credit d)) 0) : sProp 𝕄) := by
    unfold both
    iintro ⟨⟨A0, A1⟩, ⟨B0, B1⟩, ⟨C0, C1⟩, D0, D1⟩
    ihave G0 := (h2 0) $$ [A0 B0 C0 D0]
    · isplitl [A0]; · iexact A0
      isplitl [B0]; · iexact B0
      isplitl [C0] <;> iassumption
    ihave G1 := (h2 1) $$ [A1 B1 C1 D1]
    · isplitl [A1]; · iexact A1
      isplitl [B1]; · iexact B1
      isplitl [C1] <;> iassumption
    icases G0 with ⟨G0, R0⟩
    icases G1 with ⟨G1, R1⟩
    isplitl [G0 G1]; · isplitl [G0] <;> iassumption
    isplitl [R0] <;> iassumption
  unfold awake
  rw [hA, hl]
  unfold pieces paidToks units Start Meet shown
  iintro ⟨⟨⟨H8, H2, Hl, #Rl⟩, He, ⟨Ts, Tc, Tp, ⟨Te0, Te1⟩, Tl0, Tl1⟩, Hsl, ⟨Ur, Uc, Ue, Ul⟩, #Hx⟩, ⟨P8, P2⟩, Hop, HO⟩
  ihave Hrest := (rest_intro c) $$ [Ts Tc Hsl Ur Uc]
  · isplitl [Ts]; · iexact Ts
    isplitl [Tc]; · iexact Tc
    isplitl [Hsl]; · iexact Hsl
    isplitl [Ur] <;> iassumption
  ihave H := hs8 $$ [H8 P8 Hrest]
  · isplitl [H8]; · iexact H8
    isplitl [P8] <;> iassumption
  icases H with ⟨H8, HL⟩
  ihave H := hs2 $$ [H2 P2 Hop Tp]
  · isplitl [H2]; · iexact H2
    isplitl [P2]; · iexact P2
    isplitl [Hop] <;> iassumption
  unfold both
  icases H with ⟨H2, ⟨#R0, #R1⟩⟩
  isplitl [H8]; · iexact H8
  isplitl [HL]; · iexact HL
  isplitl [H2]; · iexact H2
  isplitl [Te0 Te1 He Ue]
  · isplitl [Te0]; · iexact Te0
    isplitl [Te1]; · iexact Te1
    isplitl [He] <;> iassumption
  isplitl [Tl0 Tl1 Hl Ul]
  · isplitl [Tl0]; · iexact Tl0
    isplitl [Tl1]; · iexact Tl1
    isplitl [Hl] <;> iassumption
  isplitr [HO]
  · imodintro
    isplitr
    · isplitr
      · isplitr; · iexact R0
        iexact R1
      iexact Rl
    iexact Hx
  iexact HO

/-! ## The end -/

/-- The round after a cell's last. -/
def fin : Own → ℕ
  | .inl (.inl (_, s, _)) => match s with | 0 => 4 | 1 => 3
  | .inl (.inr (_, s, _)) => match s with | 0 => 3 | 1 => 4
  | .inr (.inl (.inl _)) => 1
  | .inr (.inl (.inr _)) => 8
  | .inr (.inr ()) => 1

theorem fin_duties (o : Own) (r : ℕ) (h : fin o ≤ r) : duties (.inl o) r = ∅ := by
  match o with
  | .inl (.inl (d, s, q)) =>
    match s with
    | 0 => exact if_neg (by unfold kS; have : 4 ≤ r := h; omega)
    | 1 => exact if_neg (by unfold kS; have : 3 ≤ r := h; show ¬(2 * r + 1 < 7); omega)
  | .inl (.inr (d, s, q)) =>
    match s with
    | 0 => exact if_neg (by unfold kR; have : 3 ≤ r := h; show ¬(2 * r + 1 < 7); omega)
    | 1 => exact if_neg (by unfold kR; have : 4 ≤ r := h; show ¬(2 * r + 0 < 7); omega)
  | .inr (.inl (.inl d)) => exact if_neg (by have : 1 ≤ r := h; omega)
  | .inr (.inl (.inr d)) => exact if_neg (by have : 8 ≤ r := h; omega)
  | .inr (.inr ()) => exact if_neg (by have : 1 ≤ r := h; omega)

theorem close_own (o : Own) : iprop(Recs X Y κ ιs ∗ atPos ER (cell c (.inl o)) (fin o) ∅ 0) ⊢ (|={Set.univ}=> semVal (cell c (.inl o)) 0 : sProp 𝕄) := by
  iintro ⟨#HR, H⟩
  iapply (cell_close ER (Rd X Y) (κ := κ (cell c (.inl o))) (R := fin o) (Set.mem_univ _) id fun r hr => by rw [Rd_duties]; exact fin_duties o r hr)
  isplitr; · iapply (Recs_cell X Y κ ιs c (.inl o)); iexact HR
  iexact H
theorem close_enter : iprop(Recs X Y κ ιs ∗ atPos ER (cell c .enter) 1 ∅ 0) ⊢ (|={Set.univ}=> semVal (cell c .enter) 0 : sProp 𝕄) := by
  iintro ⟨#HR, H⟩
  iapply (cell_close ER (Rd X Y) (κ := κ (cell c .enter)) (R := 1) (Set.mem_univ _) id fun r hr => by rw [Rd_duties]; exact if_neg (by omega))
  isplitr; · iapply (Recs_cell X Y κ ιs c .enter); iexact HR
  iexact H

/-- A device that has ended gives its buffers back, and its semaphores at zero. -/
theorem end_elim : iprop(Recs X Y κ ιs ∗ End X c)
    ⊢ (|={Set.univ}=> iprop(pieces c ∗ (both fun d => operand X c d Finset.univ) ∗ Pipeline.ownSems0 osem c ∗ semVal (cell c .enter) 0 ∗ Ow c 0) : sProp 𝕄) := by
  classical
  have h8 : (all8 (St₇ c) : sProp 𝕄) ⊢ iprop((all8 fun q d => iprop((atPos ER (cell c (.send d 0 q)) 4 ∅ 0 ∗ atPos ER (cell c (.send d 1 q)) 3 ∅ 0)
        ∗ atPos ER (cell c (.recv d 0 q)) 3 ∅ 0 ∗ atPos ER (cell c (.recv d 1 q)) 4 ∅ 0))
      ∗ all8 fun q d => iprop(room c (piece d 0 q) ∗ room c (piece d 1 q))) := by
    rw [← all8_sep_eq (fun q d => iprop((atPos ER (cell c (.send d 0 q)) 4 ∅ 0 ∗ atPos ER (cell c (.send d 1 q)) 3 ∅ 0)
        ∗ atPos ER (cell c (.recv d 0 q)) 3 ∅ 0 ∗ atPos ER (cell c (.recv d 1 q)) 4 ∅ 0)) fun q d => iprop(room c (piece d 0 q) ∗ room c (piece d 1 q))]
    refine all8_mono fun q d => ?_
    have hp : (Pos c 7 q d : sProp 𝕄) = iprop(At c (.send d 1 q) 3 ∗ At c (.send d 0 q) 4 ∗ At c (.recv d 0 q) 3 ∗ At c (.recv d 1 q) 4) := rfl
    unfold St₇
    rw [hp]
    unfold At
    iintro ⟨⟨⟨A, -⟩, ⟨B, -⟩, ⟨C, -⟩, D, -⟩, H⟩
    isplitr [H]
    · isplitl [A B]; · isplitl [B] <;> iassumption
      isplitl [C] <;> iassumption
    iexact H
  have hsem : iprop(Recs X Y κ ιs ∗ bigSep Finset.univ fun o : Own => atPos ER (cell c (.inl o)) (fin o) ∅ 0)
      ⊢ (|={Set.univ}=> Pipeline.ownSems0 osem c : sProp 𝕄) :=
    (bigSep_with_persistent fun o _ => close_own X Y κ ιs c o).trans (bigSep_fupd _ _)
  have hA : (bigSep Finset.univ fun o : Own => atPos ER (cell c (.inl o)) (fin o) ∅ 0 : sProp 𝕄) = iprop(
      (all8 fun q d => iprop((atPos ER (cell c (.send d 0 q)) 4 ∅ 0 ∗ atPos ER (cell c (.send d 1 q)) 3 ∅ 0)
        ∗ atPos ER (cell c (.recv d 0 q)) 3 ∅ 0 ∗ atPos ER (cell c (.recv d 1 q)) 4 ∅ 0))
      ∗ (both fun d => iprop(atPos ER (cell c (.credit d)) 1 ∅ 0 ∗ atPos ER (cell c (.copy d)) 8 ∅ 0)) ∗ atPos ER (cell c .leave) 1 ∅ 0) := own_eq _
  rw [hA] at hsem
  unfold End pieces
  iintro ⟨#HR, H8, H2, He, Hl, HO⟩
  ihave H8 := h8 $$ H8
  icases H8 with ⟨H8, P8⟩
  unfold both Oc At
  icases H2 with ⟨⟨C0, ⟨A0, -⟩, B0, O0, -⟩, C1, ⟨A1, -⟩, B1, O1, -⟩
  imod (cell_advance X Y κ ιs c 0) $$ [C0] with C0
  · isplitr; · iexact HR
    iexact C0
  imod (cell_advance X Y κ ιs c 1) $$ [C1] with C1
  · isplitr; · iexact HR
    iexact C1
  imod (close_enter X Y κ ιs c) $$ [He] with He
  · isplitr; · iexact HR
    iexact He
  unfold both at hsem
  imod hsem $$ [H8 C0 C1 A0 A1 Hl] with Hs
  · isplitr; · iexact HR
    isplitl [H8]; · iexact H8
    isplitr [Hl]
    · isplitl [C0 A0]; · isplitl [C0] <;> iassumption
      isplitl [C1] <;> iassumption
    iexact Hl
  imodintro
  isplitl [P8 B0 B1]
  · isplitl [P8]; · iexact P8
    isplitl [B0]
    · iapply (holds_room c (oPiece 0) _); iexact B0
    · iapply (holds_room c (oPiece 1) _); iexact B1
  isplitl [O0 O1]; · isplitl [O0] <;> iassumption
  isplitl [Hs]; · iexact Hs
  isplitl [He] <;> iassumption

end Cert.KernelIdeal.Ring

end
-- ==== Proof.Call.lean ====
/-
  The call as the pipeline runs it: what it is entered with, what it leaves, and its one point.
-/
module

public import proofs.«01_k».proof.Proof.Cells
public import proofs.«01_k».proof.Proof.Gen.KernelIdeal.Frame

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ)

open Idealize.ShloMosaic.Pipeline (Dat BodyObligation)

/-! ## The buffers' contents -/

/-- A device's buffers at the launch, and after the reshape of its share of `O`. -/
abbrev V₀ (c : Dev nD) : Valuation τ sig (Elt F) := fun b => m ((c : Dev nD), b)
abbrev V₁ (c : Dev nD) : Valuation τ sig (Elt F) := StableHlo.after hostOps0 (V₀ m c)
/-- The operand and the weights of the call. -/
abbrev XV (c : Dev nD) : (main_v1 : Ref sig .tc).ty.Contents (Elt F) := V₁ m c main_v1
abbrev YV (c : Dev nD) : S512x4096.Idx → Elt F .f32 := V₁ m c main_arg1
/-- Its result. -/
def res (c : Dev nD) : S4x256x4096.Idx → Elt F .f32 := outAll (XV m) (YV m) c
/-- A device's buffers after the call. -/
abbrev V₂ (c : Dev nD) : Valuation τ sig (Elt F) := Function.update (V₁ m c) (Proc.devRef .tc main_v2) (res m c)

/-- The one buffer the body addresses itself; the buffers the call's windows do not stage. -/
def opBufs : Finset (DevRef τ sig) := {Proc.devRef .tc main_v1}
def sideBufs : Finset (DevRef τ sig) := {Proc.devRef .tc main_arg0, Proc.devRef .tc main_v1}

theorem held_op (c : Dev nD) (W : Valuation τ sig (Elt F)) :
    (StableHlo.held (c.tc : Thread nD τ) opBufs W : sProp 𝕄) = ((c : Thread nD τ).loc main_v1 ↦{fullShare} W main_v1) := by
  unfold StableHlo.held opBufs
  rw [bigSep_singleton]

/-! ## What the call starts and ends with -/

/-- What a device gets at the launch. -/
def Asleep (c : Dev nD) : sProp 𝕄 := iprop(∃ κ : GSem nD τ sig → ℕ, ∃ ιs : Key → ℕ, Recs (XV m) (YV m) κ ιs ∗ asleep c)
/-- With its cells open. -/
def Awake (c : Dev nD) : sProp 𝕄 := iprop(∃ κ : GSem nD τ sig → ℕ, ∃ ιs : Key → ℕ, Recs (XV m) (YV m) κ ιs ∗ awake c)
/-- What it keeps: the counter of the opening exchange. -/
def Done (c : Dev nD) : sProp 𝕄 := semVal (cell c .enter) 0

/-- The invariant before the call's point and after it. -/
def Φ₀ (c : Dev nD) : sProp 𝕄 := iprop(Pipeline.scopedRest spec0 c ∗ (∃ r, prngReg c r)
    ∗ StableHlo.held (c.tc : Thread nD τ) opBufs (V₁ m c) ∗ Awake m c)
def Φ₁ (c : Dev nD) : sProp 𝕄 := iprop(Pipeline.scopedRest spec0 c ∗ (∃ r, prngReg c r)
    ∗ StableHlo.held (c.tc : Thread nD τ) opBufs (V₂ m c) ∗ Pipeline.ownSems0 osem c ∗ Done c)

/-- The call's proof data. -/
def dat0 (c : Dev nD) : Dat τ (Elt F) ℕ ℕ UU ℕ cfg0 c where
  A w := V₁ m c (Pipeline.arrRef spec0 w)
  after w _ := match w with
    | 0 => YV m c
    | 1 => res m c
    | ⟨_ + 2, h⟩ => absurd h (Nat.not_lt.2 (Nat.le_add_left _ _))
  Φ t := if t.val = 0 then Φ₀ m c else Φ₁ m c
  q _ := fullShare
  owed t := if t.val = 0 then due₀ c else 0

theorem owed_first (c : Dev nD) : (dat0 m c).owed t0_0.castSucc = due₀ c := by
  show (if (t0_0.castSucc : Fin (cfg0.N + 1)).val = 0 then due₀ c else 0) = due₀ c; exact if_pos rfl
theorem owed_zero (c : Dev nD) : (dat0 m c).owed 0 = due₀ c := by
  show (if (0 : Fin (cfg0.N + 1)).val = 0 then due₀ c else 0) = due₀ c; exact if_pos rfl
theorem owed_last (c : Dev nD) : (dat0 m c).owed (Fin.last _) = 0 := by
  show (if (Fin.last cfg0.N).val = 0 then due₀ c else 0) = 0
  rw [Fin.val_last, if_neg (by rw [show cfg0.N = 1 from N_0]; decide)]
theorem inv_first (c : Dev nD) : (dat0 m c).Φ t0_0.castSucc = Φ₀ m c := by
  show (if (t0_0.castSucc : Fin (cfg0.N + 1)).val = 0 then Φ₀ m c else Φ₁ m c) = Φ₀ m c; exact if_pos rfl
theorem inv_last (c : Dev nD) : (dat0 m c).Φ (Fin.last _) = Φ₁ m c := by
  show (if (Fin.last cfg0.N).val = 0 then Φ₀ m c else Φ₁ m c) = Φ₁ m c
  rw [Fin.val_last, if_neg (by rw [show cfg0.N = 1 from N_0]; decide)]

theorem at_zero (k n : ℕ) : 0 * k + 1 * n = n := by omega
/-- A block that is the whole array is read as the array. -/
theorem wo_block (f : (main_arg1 : Ref sig .tc).ty.Contents (Elt F)) (t : Fin cfg0.N) : ((cfg0.win 0).blk t).view.read (Elt F) f = f := by
  obtain rfl := fin_N0 t
  funext i
  refine congrArg f (funext fun a => Fin.ext ?_)
  fin_cases a
  · exact at_zero 512 _
  · exact at_zero 4096 _
theorem out_block (f : (main_v2 : Ref sig .tc).ty.Contents (Elt F)) (t : Fin cfg0.N) : ((cfg0.win 1).blk t).view.read (Elt F) f = f := by
  obtain rfl := fin_N0 t
  funext i
  refine congrArg f (funext fun a => Fin.ext ?_)
  fin_cases a
  · exact at_zero 4 _
  · exact at_zero 256 _
  · exact at_zero 4096 _

theorem before_wo (c : Dev nD) (t : Fin cfg0.N) (d) : (dat0 m c).before 0 t d = YV m c :=
  ((dat0 m c).before_in_eq_fetched 0 rfl (fun _ => rfl) (fun _ _ _ => rfl) (fun t => (wo_block (YV m c) t).symm) t d).trans (wo_block (YV m c) t)

theorem arr_after (c : Dev nD) : (dat0 m c).arrAt 1 cfg0.N = res m c := by
  have h1 : (dat0 m c).arrAt 1 (t0_0.val + 1) = res m c := by
    have h2 : ((cfg0.win 1).blk t0_0).view.read (Elt F) ((dat0 m c).arrAt 1 (t0_0.val + 1)) = res m c := by
      unfold Dat.arrAt
      rw [dif_pos t0_0.isLt, if_pos (flush0_1 _), View.read_write_univ]
      rfl
    exact (out_block ((dat0 m c).arrAt 1 (t0_0.val + 1)) t0_0).symm.trans h2
  exact h1

/-- What a core owes, as the pipeline keeps it at a point, and back. -/
theorem owesAt_intro (c : Dev nD) (t : Fin (cfg0.N + 1)) (O : CellTallies nD τ sig ℕ) (h : (dat0 m c).owed t = O) :
    (Ow c O : sProp 𝕄) ⊢ ((dat0 m c).owesAt 0 t : sProp 𝕄) := by
  unfold Dat.owesAt Pipeline.owesWithin Dat.bound Ow
  rw [h, show (dat0 m c).recorded t = Set.univ from rfl]
  iintro ⟨%W, HO⟩; iexists W
  isplitr; · ipureintro; exact fun _ _ => Or.inl trivial
  iexact HO
theorem owesAt_elim (c : Dev nD) (t : Fin (cfg0.N + 1)) (O : CellTallies nD τ sig ℕ) (h : (dat0 m c).owed t = O) :
    ((dat0 m c).owesAt 0 t : sProp 𝕄) ⊢ Ow c O := by
  unfold Dat.owesAt Pipeline.owesWithin Ow
  rw [h]
  iintro ⟨%W, -, HO⟩; iexists W; iexact HO

/-- The body, run at the call's one point. -/
theorem point_body (c : Dev nD) : iprop(Φ₀ m c ∗ (dat0 m c).owesAt 0 t0_0.castSucc
      ∗ (∃ d, owns c ((cfg0.win 0).stage (cfg0.slots t0_0 0)) fullShare ((dat0 m c).before 0 t0_0 d))
      ∗ ∃ d, owns c ((cfg0.win 1).stage (cfg0.slots t0_0 1)) fullShare ((dat0 m c).before 1 t0_0 d))
    ⊢ (Runs c body fun _ => iprop(Φ₁ m c ∗ (dat0 m c).owesAt 0 t0_0.succ ∗ owns c ((cfg0.win 0).stage (cfg0.slots t0_0 0)) fullShare ((dat0 m c).after 0 t0_0)
      ∗ owns c ((cfg0.win 1).stage (cfg0.slots t0_0 1)) fullShare ((dat0 m c).after 1 t0_0)) : sProp 𝕄) := by
  have hw2 : (holds c woM (YV m c) : sProp 𝕄) ⊢ owns c ((cfg0.win 0).stage (cfg0.slots t0_0 0)) fullShare ((dat0 m c).after 0 t0_0) := .rfl
  have ho2 : (holds c outM (outAll (XV m) (YV m) c) : sProp 𝕄) ⊢ owns c ((cfg0.win 1).stage (cfg0.slots t0_0 1)) fullShare ((dat0 m c).after 1 t0_0) := .rfl
  unfold Φ₀ Awake
  iintro ⟨⟨Hsc, Hp, Ho, %κ, %ιs, #HR, Haw⟩, HO, ⟨%d0, Hw⟩, %d1, Hout⟩
  ihave Hp3 := (scoped_cut c) $$ Hsc
  ihave Ho1 := (Entails.of_eq (held_op c (V₁ m c))) $$ Ho
  ihave Ho2 := (operand_halves c (XV m)).1 $$ Ho1
  ihave HO' := (owesAt_elim m c t0_0.castSucc (due₀ c) (owed_first m c)) $$ HO
  ihave Hst := (start_intro (XV m) c) $$ [Haw Hp3 Ho2 HO']
  · isplitl [Haw]; · iexact Haw
    isplitl [Hp3]; · iexact Hp3
    isplitl [Ho2] <;> iassumption
  have hw : (owns c ((cfg0.win 0).stage (cfg0.slots t0_0 0)) fullShare ((dat0 m c).before 0 t0_0 d0) : sProp 𝕄) ⊢ holds c woM (YV m c) := by
    rw [before_wo]; exact .rfl
  have ho : (owns c ((cfg0.win 1).stage (cfg0.slots t0_0 1)) fullShare ((dat0 m c).before 1 t0_0 d1) : sProp 𝕄) ⊢ room c outM :=
    holds_room c outM _
  ihave Hw' := hw $$ Hw
  ihave Hout' := ho $$ Hout
  unfold Runs
  iapply (wp_fupd (E := Set.univ))
  iapply (run_body (XV m) (YV m) κ ιs c) $$ [Hst Hw' Hout']
  · isplitr; · iexact HR
    isplitl [Hst]; · iexact Hst
    isplitl [Hw'] <;> iassumption
  iintro ⟨HE, Hw, Hout⟩
  imod (end_elim (XV m) (YV m) κ ιs c) $$ [HE] with ⟨Hp3, Ho2, Hos, Hen, HO⟩
  · isplitr; · iexact HR
    iexact HE
  imodintro
  isplitl [Hp3 Hp Ho2 Hos Hen]
  · unfold Φ₁ Done
    isplitl [Hp3]; · iapply (scoped_uncut c); iexact Hp3
    isplitl [Hp]; · iexact Hp
    isplitl [Ho2]
    · rw [held_op, show V₂ m c main_v1 = XV m c from Function.update_of_ne (by decide) ..]
      iapply (operand_halves c (XV m)).2; iexact Ho2
    isplitl [Hos] <;> iassumption
  isplitl [HO]; · iapply (owesAt_intro m c t0_0.succ 0 (owed_last m c)); iexact HO
  isplitl [Hw]; · iapply hw2; iexact Hw
  iapply ho2; iexact Hout

/-- The call's one point runs the body. -/
theorem point (c : Dev nD) : BodyObligation (dat0 m c) defs₀ 𝒱₀ 0 Set.univ := fun t => by
  obtain rfl := fin_N0 t
  rw [bigSep_W0, bigSep_W0, inv_first, show (dat0 m c).Φ t0_0.succ = Φ₁ m c from inv_last m c]
  rw [show (defs₀ (F := F) .tc cfg0.body (cfg0.bodyArgs t0_0 (cfg0.slots t0_0))) = body from body_eq t0_0]
  exact triple_restated (point_body m c) rfl .rfl fun _ => .rfl

end Cert.KernelIdeal.Ring

end
-- ==== Proof.Launch.lean ====
/-
  The launch: every device's first holdings, the program as its reshape and its call, and the run.
-/
module

public import proofs.«01_k».proof.Proof.Call
public import Idealize.ShloMosaic.Lib.Pipeline.RegionTalk

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

open Idealize.ShloMosaic.Pipeline (Dat BodyObligation)

/-! ## The call as a segment -/

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat0 m

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own_sems : Pipeline.OwnSemFacts spec0 osem := by decide +kernel

theorem op_side : opBufs ⊆ sideBufs := by decide

theorem open_cells (c : Dev nD) : iprop(Asleep m c ∗ Pipeline.ownSems0 osem c ∗ levAts L lv) ⊢ (|={Set.univ}=> Awake m c : sProp 𝕄) := by
  unfold Asleep Awake
  iintro ⟨⟨%κ, %ιs, #HR, Ha⟩, Hos, -⟩
  imod (wake (XV m) (YV m) κ ιs c) $$ [Ha Hos] with H
  · isplitr; · iexact HR
    isplitl [Ha] <;> iassumption
  imodintro
  iexists κ; iexists ιs
  isplitr; · iexact HR
  iexact H

/-- A window's staging cell comes before all that is owed. -/
theorem staging_none (w : Fin cfg0.W) (s : Fin (cfg0.win w).nbuf) : ∀ cl : Cl, semOf cl ≠ .dma ((cfg0.win w).sem s) := by
  revert w s; decide +kernel
theorem lv_staging (c : Dev nD) (w : Fin cfg0.W) (s : Fin (cfg0.win w).nbuf) : lv ((c : Thread nD τ), .dma ((cfg0.win w).sem s)) 0 = 0 := by
  show (match clOf (.dma ((cfg0.win w).sem s)) with | some cl => lvCl cl 0 | none => 0) = 0
  rw [show clOf (.dma ((cfg0.win w).sem s)) = none from by
    unfold clOf
    exact dif_neg fun ⟨cl, h⟩ => staging_none w s cl h]
theorem owed_above (c : Dev nD) (g : GSem nD τ sig) (i : ℕ) (h : 0 < due₀ c g i) : i ∈ L g ∧ 0 < lv g i := by
  unfold due₀ owesX at h
  simp only [Pi.add_apply, Finsupp.add_apply] at h
  rcases Nat.eq_zero_or_pos (due 0 0 c g i) with h0 | h0
  · rcases Nat.eq_zero_or_pos ((tallyAt (cell (left c) .enter) 0 1 : CellTallies nD τ sig ℕ) g i) with h1 | h1
    · rw [h0, h1, Nat.zero_add, Nat.zero_add] at h
      obtain ⟨rfl, rfl⟩ := tallyAt_pos h
      rw [L_tc, lv_cell]
      exact ⟨Finset.mem_range.mpr (by omega), Nat.one_pos⟩
    · obtain ⟨rfl, rfl⟩ := tallyAt_pos h1
      rw [L_tc, lv_cell]
      exact ⟨Finset.mem_range.mpr (by omega), Nat.one_pos⟩
  · exact due_above c (by omega) (by omega) (by omega) g i h0

theorem cut0 : Pipeline.LevelCutOwed (pcfgs (F := F)) adm (pdats m) 0 L lv 0 (fun _ => 0) where
  hι c w s := by rw [L_tc]; exact Finset.mem_range.mpr (by omega)
  hιb c w s := le_of_eq (lv_staging c w s)
  hD c t g i h := by
    refine owed_above c g i ?_
    have h' : 0 < (if t.val = 0 then due₀ c else 0) g i := h
    split at h'
    · exact h'
    · exact absurd h' (Nat.lt_irrefl 0)

theorem V₂_side (c : Dev nD) : ∀ b ∈ sideBufs \ opBufs, V₂ m c b = V₁ m c b := fun b hb =>
  Function.update_of_ne (by rintro rfl; exact absurd hb (by decide)) ..

theorem arr_before (c : Dev nD) (w : Fin cfg0.W) : (dat0 m c).arrAt w 0 = V₁ m c (Proc.devRef .tc (Pipeline.arrRef spec0 w)) := rfl
theorem arr_end (c : Dev nD) (w : Fin cfg0.W) : (dat0 m c).arrAt w cfg0.N = V₂ m c (Proc.devRef .tc (Pipeline.arrRef spec0 w)) := by
  match w with
  | 0 =>
    refine ((dat0 m c).arrAt_in 0 rfl _).trans ?_
    show V₁ m c main_arg1 = V₂ m c main_arg1
    exact (Function.update_of_ne (by decide) ..).symm
  | 1 =>
    show _ = V₂ m c main_v2
    exact (arr_after m c).trans (show V₂ m c main_v2 = res m c from Function.update_self ..).symm
  | ⟨_ + 2, h⟩ => exact absurd h (Nat.not_lt.2 (Nat.le_add_left _ _))

set_option backward.isDefEq.respectTransparency.types false in
/-- The call. -/
def callSeg : Pipeline.RegionSeg (pcfgs (F := F)) adm (pdats m) 0 defs₀ 𝒱₀ L lv 0 :=
  Pipeline.RegionSeg.ofTalk (pcfgs (F := F)) adm (pdats m) 0 defs₀ 𝒱₀ L lv 0 osem own_sems opBufs sideBufs op_side kit0 rfl
    (fun c => (point m c).loose) (fun _ => 0) due₀ (fun c => (owed_zero m c).trans (zero_add _).symm) (fun c => owed_last m c) (fun _ => rfl)
    (fun c w => (dat0 m c).share_full (fun _ => rfl) w) (V₁ m) (V₂ m) (V₂_side m) (Asleep m) (Done) (Awake m) (Done)
    (open_cells m) (fun c => Entails.of_eq (inv_first m c).symm) (fun c => Entails.of_eq (inv_last m c)) (fun c => fupd_intro) (fun _ => 0)
    (cut0 m) (fun _ => iprop(emp)) (arr_before m) (arr_end m)

/-! ## The reshape as a segment -/

/-- All unscoped buffers of a device. -/
def bufs : Finset (DevRef τ sig) := {Proc.devRef .tc main_arg0, Proc.devRef .tc main_arg1, Proc.devRef .tc main_v1, Proc.devRef .tc main_v2}

abbrev pt (c : Dev nD) (b : Ref sig .tc) (f : b.ty.Contents (Elt F)) : sProp 𝕄 := ((c : Thread nD τ).loc b) ↦{fullShare} f

theorem bufs_eq (c : Dev nD) (W : Valuation τ sig (Elt F)) : (StableHlo.held (c.tc : Thread nD τ) bufs W : sProp 𝕄)
    = iprop(pt c main_arg0 (W main_arg0) ∗ pt c main_arg1 (W main_arg1) ∗ pt c main_v1 (W main_v1) ∗ pt c main_v2 (W main_v2)) := by
  unfold StableHlo.held
  rw [bigSep_eq_bigSepL_of_eq [Proc.devRef .tc main_arg0, Proc.devRef .tc main_arg1, Proc.devRef .tc main_v1, Proc.devRef .tc main_v2] (by decide) (by decide)]
  rfl
theorem side_eq (c : Dev nD) (W : Valuation τ sig (Elt F)) : (StableHlo.held (c.tc : Thread nD τ) sideBufs W : sProp 𝕄)
    = iprop(pt c main_arg0 (W main_arg0) ∗ pt c main_v1 (W main_v1)) := by
  unfold StableHlo.held
  rw [bigSep_eq_bigSepL_of_eq [Proc.devRef .tc main_arg0, Proc.devRef .tc main_v1] (by decide) (by decide)]
  rfl
theorem arrs_eq (c : Dev nD) (W : Valuation τ sig (Elt F)) : (StableHlo.held (c.tc : Thread nD τ) (Pipeline.arrRefs (pcfgs (F := F) 0).spec) W : sProp 𝕄)
    = iprop(pt c main_arg1 (W main_arg1) ∗ pt c main_v2 (W main_v2)) := by
  unfold StableHlo.held
  rw [show Pipeline.arrRefs (pcfgs (F := F) 0).spec = Pipeline.arrRefs spec0 from rfl,
    bigSep_eq_bigSepL_of_eq [Proc.devRef .tc main_arg1, Proc.devRef .tc main_v2] (by decide) (by decide)]
  rfl
theorem unscoped_held (c : Dev nD) (W : Valuation τ sig (Elt F)) :
    (unscopedBufs c (fun b => W b) : sProp 𝕄) = StableHlo.held (c.tc : Thread nD τ) bufs W := by
  rw [show bufs = (StableHlo.tcRefs τ sig).filter fun b => ¬ b.isScoped from by decide]
  unfold unscopedBufs StableHlo.held StableHlo.tcRefs
  rw [Finset.filter_map, BI.bigSep_map]
  rfl

theorem ops_sub : ∀ op ∈ (hostOps0 : List (HloOp τ sig (Elt F))), op.bufs ⊆ bufs := fun op h => by
  simp only [List.mem_singleton] at h; subst h
  show ({Proc.devRef .tc main_arg0, Proc.devRef .tc main_v1} : Finset (DevRef τ sig)) ⊆ bufs; decide
theorem ops_fresh : ∀ op ∈ (hostOps0 : List (HloOp τ sig (Elt F))), op.fresh = ∅ := fun op h => by
  simp only [List.mem_singleton] at h; subst h; rfl

/-- What is carried beside the buffers up to the call. -/
def carried (c : Dev nD) : sProp 𝕄 := iprop(Asleep m c ∗ (∃ r, prngReg c r) ∗ Ow c (due₀ c))
def hostSeg : Pipeline.HostSeg (Name := ℕ) (U := UU) (pcfgs (F := F)) defs₀ 𝒱₀ L lv :=
  Pipeline.HostSeg.ofOps _ _ _ _ _ bufs hostOps0 ops_sub ops_fresh (V₀ m) (carried m)

def segs : List (Pipeline.Seg (pcfgs (F := F)) adm (pdats m) 0 defs₀ 𝒱₀ L lv) := [.host (hostSeg m), .region (callSeg m)]
theorem main_eq (c : Dev nD) : main (F := F) c = Pipeline.Seg.run (segs m) :=
  main_segs adm (pdats m) 0 𝒱₀ L lv (hostSeg m) (callSeg m) rfl c

/-- A device's holdings at the launch and at the end. -/
def First (c : Dev nD) : sProp 𝕄 := iprop(StableHlo.held (c.tc : Thread nD τ) bufs (V₀ m c) ∗ carried m c)
def Last (c : Dev nD) : sProp 𝕄 := iprop(StableHlo.held (c.tc : Thread nD τ) bufs (V₂ m c) ∗ Done c)

theorem into_call (c : Dev nD) : iprop(StableHlo.held (c.tc : Thread nD τ) bufs (V₁ m c) ∗ carried m c)
    ⊢ (iprop(StableHlo.held (c.tc : Thread nD τ) (Pipeline.arrRefs (pcfgs (F := F) 0).spec) (V₁ m c) ∗ (∃ r, prngReg c r)
      ∗ (StableHlo.held (c.tc : Thread nD τ) sideBufs (V₁ m c) ∗ emp) ∗ Asleep m c ∗ ∃ Wd, owes (c : Thread nD τ) (0 + due₀ c) Wd) : sProp 𝕄) := by
  rw [bufs_eq, side_eq, arrs_eq, zero_add]
  unfold carried Ow
  iintro ⟨⟨H0, H1, H2, H3⟩, Ha, Hp, HO⟩
  isplitl [H1 H3]; · isplitl [H1] <;> iassumption
  isplitl [Hp]; · iexact Hp
  isplitl [H0 H2]
  · isplitl [H0 H2]
    · isplitl [H0] <;> iassumption
    iempintro
  isplitl [Ha] <;> iassumption
theorem out_of_call (c : Dev nD) : iprop(StableHlo.held (c.tc : Thread nD τ) (Pipeline.arrRefs (pcfgs (F := F) 0).spec) (V₂ m c) ∗ (∃ r, prngReg c r)
      ∗ (StableHlo.held (c.tc : Thread nD τ) sideBufs (V₂ m c) ∗ emp) ∗ Done c ∗ ∃ Wd, owes (c : Thread nD τ) (0 : CellTallies nD τ sig ℕ) Wd)
    ⊢ (iprop(Last m c ∗ ∃ W, owes (c : Thread nD τ) (0 : CellTallies nD τ sig ℕ) W) : sProp 𝕄) := by
  unfold Last
  rw [bufs_eq, side_eq, arrs_eq]
  iintro ⟨⟨H1, H3⟩, -, ⟨⟨H0, H2⟩, -⟩, HD, HO⟩
  isplitr [HO]
  · isplitr [HD]
    · isplitl [H0]; · iexact H0
      isplitl [H1]; · iexact H1
      isplitl [H2] <;> iassumption
    iexact HD
  iexact HO

/-! ## The launch -/

/-- The launch's own element: the staging cells', the ring's cells' and the slots'. -/
def u₀ : UU :=
  (initOf (Pipeline.cells (Pipeline.pin (pcfgs (F := F)) adm) cellOf_inj) (Pipeline.launchToks (Pipeline.pin (pcfgs (F := F)) adm) cellOf_inj),
    (launchOf enterCells ownCells toks, initSlots keys 1))
/-- The last two, before they are dealt. -/
def pot : sProp 𝕄 := BI.own (embR (launchOf enterCells ownCells toks, initSlots keys 1))
/-- They start on device 0. -/
def start0 (c : Dev nD) : sProp 𝕄 := if c = 0 then pot else iprop(emp)
theorem start0_eq : (bigSep Finset.univ fun c : Dev nD => (start0 c : sProp 𝕄)) = pot := by
  classical
  rw [bigSep_univ_at _ (0 : Dev nD), bigSep_congr (s := Finset.univ.erase (0 : Dev nD)) (Φ := fun c : Dev nD => (start0 c : sProp 𝕄)) (Ψ := fun _ => (BI.emp : sProp 𝕄)) fun c hc => if_neg (Finset.ne_of_mem_erase hc),
    bigSep_emp_const]
  exact (BI.equiv_iff.mp sep_emp).trans (if_pos rfl)

theorem sems_enter (c : Dev nD) : (unscopedSems0 c : sProp 𝕄) = semVal (cell c .enter) 0 := by
  unfold unscopedSems0
  rw [bigSep_eq_bigSepL_of_eq [semOf .enter] (by decide) (by decide)]
  rfl

theorem enters (A : GSem nD τ sig → sProp 𝕄) : bigSep enterCells A = bigSep Finset.univ fun c : Dev nD => A (cell c .enter) := by
  unfold enterCells; rw [bigSep_map]; rfl
theorem owns_all (A : GSem nD τ sig → sProp 𝕄) :
    bigSep ownCells A = bigSep Finset.univ fun c : Dev nD => bigSep Finset.univ fun o : Own => A (cell c (.inl o)) := by
  unfold ownCells; rw [bigSep_map, bigSep_univ_prod]; rfl

/-- What the opening cells' start tells all. -/
def opened : sProp 𝕄 := bigSep Finset.univ fun c : Dev nD => reached ER (cell c .enter) 0
instance : BI.Persistent (opened : sProp 𝕄) := by unfold opened; infer_instance
theorem opened_at (c : Dev nD) : (opened : sProp 𝕄) ⊢ reached ER (cell c .enter) 0 := by
  classical
  exact bigSep_elim (Finset.mem_univ c)

/-- The ring's cells, tokens and slots of all devices. -/
theorem deal : iprop((bigSep Finset.univ fun c : Dev nD => semVal (cell c .enter) 0) ∗ pot ∗ levAts L lv)
    ⊢ (|={Set.univ}=> iprop(∃ κ : GSem nD τ sig → ℕ, ∃ ιs : Key → ℕ, (Recs (XV m) (YV m) κ ιs ∗ opened)
      ∗ bigSep Finset.univ fun c : Dev nD => iprop((bigSep Finset.univ fun o : Own => openTok ER (cell c (.inl o))) ∗ atPos ER (cell c .enter) 0 ∅ 0
        ∗ paidToks c ∗ slotToks c)) : sProp 𝕄) := by
  classical
  have hp : (pot : sProp 𝕄) ⊢ iprop(BI.own (ER (launchOf enterCells ownCells toks)) ∗ BI.own (ES (initSlots keys 1))) :=
    own_pair_emb (embR : Emb (URounds (GSem nD τ sig) ℕ × USlots Key) 𝕄) _ _
  iintro ⟨Hv, Hp, #HL⟩
  ihave Hp' := hp $$ Hp
  icases Hp' with ⟨Hr, Hs⟩
  ihave Hv' := (Entails.of_eq (enters fun g => semVal g 0).symm) $$ Hv
  imod (Rounds.fund_launch ER (Rd (XV m) (YV m)) enter_own (fun g _ h => h) toks) $$ [Hv' Hr] with ⟨%κ, -, #Hinv, #Hre, Hat, Hopen, Htok⟩
  · isplitl [Hv'] <;> iassumption
  imod (slots_init ES keys 1 handed) $$ Hs with ⟨%ιs, -, #Hsl, Hread, Hwrite⟩
  ihave Hslots := slots_deal $$ [Hread Hwrite]
  · isplitl [Hread] <;> iassumption
  ihave Htoks := toks_deal $$ Htok
  ihave Hat' := (Entails.of_eq (enters fun g => atPos ER g 0 ∅ 0)) $$ Hat
  ihave Hopen' := (Entails.of_eq (owns_all fun g => openTok ER g)) $$ Hopen
  ihave Hre' := (Entails.of_eq (enters fun g => reached ER g 0)) $$ Hre
  imodintro
  iexists κ; iexists ιs
  isplitr
  · isplitr
    · unfold Recs
      isplitr; · iapply (invs_all (XV m) (YV m) κ); iexact Hinv
      isplitr; · iexact Hsl
      iexact HL
    unfold opened; iexact Hre'
  simp only [bigSep_sep' (Finset.univ : Finset (Dev nD))]
  isplitl [Hopen']; · iexact Hopen'
  isplitl [Hat']; · iexact Hat'
  isplitl [Htoks] <;> iassumption

theorem launch : iprop((bigSep Finset.univ fun c : Dev nD => iprop(unscopedBufs c (fun b => m ((c : Thread nD τ).loc b)) ∗ unscopedSems0 c
        ∗ owes (c : Thread nD τ) (due₀ c) ∅ ∗ Pipeline.launchCred due₀ c ∗ prngReg c (ρ c) ∗ start0 c)) ∗ levAts L lv)
    ⊢ (|={Set.univ}=> bigSep Finset.univ (First m) : sProp 𝕄) := by
  classical
  have h1 : ∀ c ∈ (Finset.univ : Finset (Dev nD)), (iprop(unscopedBufs c (fun b => m ((c : Thread nD τ).loc b)) ∗ unscopedSems0 c
        ∗ owes (c : Thread nD τ) (due₀ c) ∅ ∗ Pipeline.launchCred due₀ c ∗ prngReg c (ρ c) ∗ start0 c) : sProp 𝕄)
      ⊢ iprop(semVal (cell c .enter) 0 ∗ start0 c ∗ (StableHlo.held (c.tc : Thread nD τ) bufs (V₀ m c) ∗ units c ∗ (∃ r, prngReg c r) ∗ Ow c (due₀ c))) := fun c _ => by
    rw [show (unscopedBufs c (fun b => m ((c : Thread nD τ).loc b)) : sProp 𝕄) = StableHlo.held (c.tc : Thread nD τ) bufs (V₀ m c) from unscoped_held c (V₀ m c), sems_enter]
    unfold Ow
    iintro ⟨Hb, Hs, HO, Hc, Hp, Hx⟩
    isplitl [Hs]; · iexact Hs
    isplitl [Hx]; · iexact Hx
    isplitl [Hb]; · iexact Hb
    isplitl [Hc]; · iapply (units_intro c); iexact Hc
    isplitl [Hp]; · iexists (ρ c); iexact Hp
    iexists ∅; iexact HO
  have h2 : ∀ (κ : GSem nD τ sig → ℕ) (ιs : Key → ℕ), ∀ c ∈ (Finset.univ : Finset (Dev nD)), (iprop((Recs (XV m) (YV m) κ ιs ∗ opened)
        ∗ (((bigSep Finset.univ fun o : Own => openTok ER (cell c (.inl o))) ∗ atPos ER (cell c .enter) 0 ∅ 0 ∗ paidToks c ∗ slotToks c)
          ∗ (StableHlo.held (c.tc : Thread nD τ) bufs (V₀ m c) ∗ units c ∗ (∃ r, prngReg c r) ∗ Ow c (due₀ c)))) : sProp 𝕄) ⊢ First m c := fun κ ιs c _ => by
    unfold First carried Asleep asleep
    iintro ⟨⟨#HR, #Hop⟩, ⟨Ho, Hat, Hpd, Hsl⟩, Hb, Hu, Hp, HO⟩
    isplitl [Hb]; · iexact Hb
    isplitl [Ho Hat Hpd Hsl Hu]
    · iexists κ; iexists ιs
      isplitr; · iexact HR
      isplitl [Ho]; · iexact Ho
      isplitl [Hat]; · iexact Hat
      isplitl [Hpd]; · iexact Hpd
      isplitl [Hsl]; · iexact Hsl
      isplitl [Hu]; · iexact Hu
      imodintro
      isplitl
      · iapply (opened_at (left c)); iexact Hop
      iapply (opened_at (right c)); iexact Hop
    isplitl [Hp] <;> iassumption
  have e : (bigSep Finset.univ fun c : Dev nD => iprop(semVal (cell c .enter) 0 ∗ start0 c ∗ (StableHlo.held (c.tc : Thread nD τ) bufs (V₀ m c) ∗ units c ∗ (∃ r, prngReg c r) ∗ Ow c (due₀ c))) : sProp 𝕄)
      = iprop((bigSep Finset.univ fun c : Dev nD => semVal (cell c .enter) 0) ∗ pot
        ∗ bigSep Finset.univ fun c : Dev nD => iprop(StableHlo.held (c.tc : Thread nD τ) bufs (V₀ m c) ∗ units c ∗ (∃ r, prngReg c r) ∗ Ow c (due₀ c))) := by
    rw [bigSep_sep' Finset.univ, bigSep_sep' Finset.univ, start0_eq]
  have h3 : (bigSep Finset.univ fun c : Dev nD => iprop(unscopedBufs c (fun b => m ((c : Thread nD τ).loc b)) ∗ unscopedSems0 c
        ∗ owes (c : Thread nD τ) (due₀ c) ∅ ∗ Pipeline.launchCred due₀ c ∗ prngReg c (ρ c) ∗ start0 c) : sProp 𝕄)
      ⊢ iprop((bigSep Finset.univ fun c : Dev nD => semVal (cell c .enter) 0) ∗ pot
        ∗ bigSep Finset.univ fun c : Dev nD => iprop(StableHlo.held (c.tc : Thread nD τ) bufs (V₀ m c) ∗ units c ∗ (∃ r, prngReg c r) ∗ Ow c (due₀ c))) :=
    (bigSep_mono h1).trans (Entails.of_eq e)
  iintro ⟨H, #HL⟩
  ihave H' := h3 $$ H
  icases H' with ⟨Hv, Hp, Hrest⟩
  imod (deal m) $$ [Hv Hp] with ⟨%κ, %ιs, #HR, Hd⟩
  · isplitl [Hv]; · iexact Hv
    isplitl [Hp]; · iexact Hp
    iexact HL
  imodintro
  iapply (bigSep_with_persistent (h2 κ ιs))
  isplitr; · iexact HR
  iapply (Entails.of_eq (bigSep_sep' Finset.univ
    (fun c : Dev nD => iprop((bigSep Finset.univ fun o : Own => openTok ER (cell c (.inl o))) ∗ atPos ER (cell c .enter) 0 ∅ 0 ∗ paidToks c ∗ slotToks c))
    (fun c : Dev nD => iprop(StableHlo.held (c.tc : Thread nD τ) bufs (V₀ m c) ∗ units c ∗ (∃ r, prngReg c r) ∗ Ow c (due₀ c)))).symm)
  isplitl [Hd] <;> iassumption

/-! ## The run -/

theorem sem_enter_only (sm : SemLoc sig) (h : sm.isScoped .tc = false) : sm = semOf .enter := by
  revert sm; decide

theorem V₂_arg0 (c : Dev nD) : V₂ m c main_arg0 = m ((c : Thread nD τ).loc main_arg0) :=
  (Function.update_of_ne (by decide) ..).trans (V_main_arg0 m c)
theorem V₂_arg1 (c : Dev nD) : V₂ m c main_arg1 = m ((c : Thread nD τ).loc main_arg1) :=
  (Function.update_of_ne (by decide) ..).trans (V_main_arg1 m c)
theorem V₂_res (c : Dev nD) : V₂ m c main_v2 = res m c := Function.update_self ..

set_option backward.isDefEq.respectTransparency.types false in
/-- At any float values, from any memory with all counters at zero, every execution ends; then the arguments are what they were, every device's result is
    `res`, and all counters are at zero again. -/
theorem run_main : θ_run defs (onTc (τ := τ) (main (F := F))) (s₀ m ρ)
    (fun r => (∀ c : Dev nD, r.2.mem ((c : Thread nD τ).loc main_v2) = res m c ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := due₀) (hL := L_of_ne) (G := start0) (u₀ := u₀)
    (hu₀ := by
      unfold u₀
      rw [start0_eq]
      iintro Hu
      ihave H := (ownU_pair _ _) $$ Hu
      icases H with ⟨HP, HX⟩
      imodintro
      isplitl [HP]; · iexact HP
      unfold pot; iexact HX)
    (T₀ := First m) (Tₙ := Last m)
    (hch := ⟨fun c => .rfl, fun c => into_call m c, fun c => out_of_call m c⟩)
    (hinit := launch m ρ)
    (QY := fun c s => (s.mem ((c : Thread nD τ).loc main_v2) = res m c ∧ s.mem ((c : Thread nD τ).loc main_arg0) = m ((c : Thread nD τ).loc main_arg0)
        ∧ s.mem ((c : Thread nD τ).loc main_arg1) = m ((c : Thread nD τ).loc main_arg1)) ∧ s.sem (cell c .enter) = 0)
    (hfin := fun c s' => by
      unfold Last Done
      rw [bufs_eq, V₂_arg0, V₂_arg1, V₂_res]
      iintro ⟨⟨⟨H0, H1, -, H2⟩, Hs⟩, HSI⟩
      icombine HSI H0 gives %h0
      icombine HSI H1 gives %h1
      icombine HSI H2 gives %h2
      icombine HSI Hs gives %hs
      imodintro
      isplitr
      · ipureintro
        exact ⟨⟨Buf.eq_of_forall_mem_univ h2, Buf.eq_of_forall_mem_univ h0, Buf.eq_of_forall_mem_univ h1⟩, by simpa using hs⟩
      iexact HSI)
    (hQ := fun s h hs => ⟨fun c => (h c).1, sem_eq_zero hs fun c sm hsm => by
      obtain rfl := sem_enter_only sm (by simpa using hsm)
      exact (h c).2⟩)

end Cert.KernelIdeal.Ring

end
-- ==== Proof.Maths.lean ====
/-
  The result in exact arithmetic. What a device sends in transfer `k` is the sum, over the `k + 1`
  devices it has come past, of their products for the rows of the device the sum is bound for; after
  the last round every device has added its product, so the result is the sum over all of them.
-/
module

public import proofs.«01_k».proof.Proof.Parts
public import Idealize.ShloMosaic.Lib.MatmulPlain
public import Idealize.ShloMosaic.Lib.Pipeline.Value

@[expose] public section

noncomputable section

namespace Cert.KernelIdeal.Ring

open Idealize.ShloMosaic Idealize.ShloMosaic.TcCoe
open Idealize.SL.Sem
open Idealize.ShloMosaic.ValueIdx
open Cert.KernelIdeal.Gen
open scoped BigOperators

variable (X : Dev nD → S4x2048x512.Idx → Elt Ideal .f32) (Y : Dev nD → S512x4096.Idx → Elt Ideal .f32)

/-- Device `e`'s product: row `r` of batch `b` of its operand by column `n` of its weights. -/
def share (e : Dev nD) (b : Fin 4) (r : Fin 2048) (n : Fin 4096) : EReal :=
  ∑ k : Fin 512, (X e (ix3 b r k : S4x2048x512.Idx) : EReal) * (Y e (ix2 k n : S512x4096.Idx) : EReal)

/-! ## Where the sums go -/

/-- The device `k` steps before `c` in a direction. -/
def back (d : Fin 2) (k : ℕ) (c : Dev nD) : Dev nD := (fromD d)^[k] c

theorem back_succ (d : Fin 2) (k : ℕ) (c : Dev nD) : back d (k + 1) c = back d k (fromD d c) := Function.iterate_succ_apply _ _ _

/-- Chunk `j` holds the rows of the device `j + 1` steps back. -/
theorem srcOff_eq : ∀ (j : Fin 8) (d : Fin 2) (c : Dev nD), srcOff c d j.val = ![0, 256 * (back d (j.val + 1) c).val, 0] := by decide +kernel
/-- Eight steps lead around the ring, -/
theorem back_eight : ∀ (d : Fin 2) (c : Dev nD), back d 8 c = c := by decide
/-- past every device once. -/
theorem back_inj : ∀ (d : Fin 2) (c : Dev nD), Function.Injective fun t : Fin 8 => back d t.val c := by decide

/-- Row `s` of the rows a device is responsible for. -/
def rowOf (e : Dev nD) (s : Fin 256) : Fin 2048 := ⟨256 * e.val + s.val, by have := e.isLt; have := s.isLt; unfold nD at *; omega⟩
/-- Column `l` of a sub-block of a direction. -/
def colOf (d : Fin 2) (q : Fin 4) (l : Fin 512) : Fin 4096 := ⟨2048 * d.val + 512 * q.val + l.val, by omega⟩

/-! ## The pieces at an index -/

theorem chunk_apply (c : Dev nD) (d : Fin 2) (j : ℕ) (hj : j < 8) (b : Fin 4) (s : Fin 256) (k : Fin 512) :
    chunk X c d j (ix3 b s k : S4x256x512.Idx) = X c (ix3 b (rowOf (back d (j + 1) c) s) k : S4x2048x512.Idx) := by
  show X c ((Rect.unit (s := S4x2048x512) (srcOff c d j) S4x256x512.size (inb_srcOff c d j)).emb (ix3 b s k : S4x256x512.Idx)) = _
  refine congrArg (X c) ?_
  have h := srcOff_eq ⟨j, hj⟩ d c
  funext a
  apply Fin.ext
  rw [Rect.emb_apply, Rect.off_unit, Rect.stride_unit, Nat.one_mul]
  refine (congrArg (· + _) (congrFun h a)).trans ?_
  match a with
  | ⟨0, _⟩ => exact Nat.zero_add _
  | ⟨1, _⟩ => rfl
  | ⟨2, _⟩ => exact Nat.zero_add _

theorem cols_apply (c : Dev nD) (d : Fin 2) (q : Fin 4) (k l : Fin 512) :
    cols Y c d q (ix2 k l : S512x512.Idx) = Y c (ix2 k (colOf d q l) : S512x4096.Idx) := by
  unfold cols
  refine congrArg (Y c) ?_
  funext a
  apply Fin.ext
  rw [Rect.emb_apply, Rect.off_unit, Rect.stride_unit, Nat.one_mul]
  match a with
  | ⟨0, _⟩ => exact Nat.zero_add _
  | ⟨1, _⟩ => rfl

/-- A batch as loaded and as a matrix have the same elements. -/
theorem cast_in {α : Type} (v : S1x1x256x512.Idx → α) (s : Fin 256) (l : Fin 512) :
    shapeCast S256x512 v shapeCasts_S1x1x256x512_S256x512 (ix2 s l : S256x512.Idx) = v (ix4 0 0 s l : S1x1x256x512.Idx) :=
  shapeCast_apply v _ _ _ (by
    rw [Shape.rowMajor_val_four, Shape.rowMajor_val_two]
    show ((0 * 1 + 0) * 256 + s.val) * 512 + l.val = s.val * 512 + l.val
    omega)
theorem cast_out {α : Type} (v : S256x512.Idx → α) (u w : Fin 1) (s : Fin 256) (l : Fin 512) :
    shapeCast S1x1x256x512 v shapeCasts_S256x512_S1x1x256x512 (ix4 u w s l : S1x1x256x512.Idx) = v (ix2 s l : S256x512.Idx) :=
  shapeCast_apply v _ _ _ (by
    rw [Shape.rowMajor_val_four, Shape.rowMajor_val_two]
    show s.val * 512 + l.val = ((u.val * 1 + w.val) * 256 + s.val) * 512 + l.val
    omega)
theorem cast_res {α : Type} (v : S256x512.Idx → α) (u : Fin 1) (s : Fin 256) (l : Fin 512) :
    shapeCast S1x256x512 v shapeCasts_S256x512_S1x256x512 (ix3 u s l : S1x256x512.Idx) = v (ix2 s l : S256x512.Idx) :=
  shapeCast_apply v _ _ _ (by
    rw [Shape.rowMajor_val_three, Shape.rowMajor_val_two]
    show s.val * 512 + l.val = (u.val * 256 + s.val) * 512 + l.val
    omega)

/-- A product at an index. -/
theorem prod_apply (o : Vec Ideal S1x1x256x512 .f32) (w : Vec Ideal S512x512 .f32) (s : Fin 256) (l : Fin 512) :
    prod o w (ix2 s l : S256x512.Idx) = ∑ k : Fin 512, (o (ix4 0 0 s k : S1x1x256x512.Idx) : EReal) * (w (ix2 k l : S512x512.Idx) : EReal) := by
  unfold prod
  have hd : dot_S256x512_S512x512_S256x512_1_0_0_1_n_n = DotDims.plain 256 512 512 := rfl
  rw [hd]
  refine (Ideal.matmul_plain_apply none _ _ _ s l).trans ?_
  rw [shapeCast_self]
  have h0 : (constant S256x512 .f32 0x00000000#32 : FVec Ideal S256x512 .f32) (ix2 s l : S256x512.Idx) = (0 : EReal) := Ideal.ofBits_zero_f32
  rw [h0, zero_add]
  exact Finset.sum_congr rfl fun k _ => by rw [cast_in]

/-- A device's product for a chunk. -/
theorem prod_chunk (c : Dev nD) (d : Fin 2) (q : Fin 4) (j : ℕ) (hj : j < 8) (b : Fin 4) (s : Fin 256) (l : Fin 512) :
    prod (row b (chunk X c d j)) (cols Y c d q) (ix2 s l : S256x512.Idx) = share X Y c b (rowOf (back d (j + 1) c) s) (colOf d q l) := by
  rw [prod_apply]
  unfold share
  refine Finset.sum_congr rfl fun k _ => ?_
  have h : inBatch b (ix4 0 0 s k : S1x1x256x512.Idx) = (ix3 b s k : S4x256x512.Idx) := by
    funext a; match a with | ⟨0, _⟩ => rfl | ⟨1, _⟩ => rfl | ⟨2, _⟩ => rfl
  show (chunk X c d j (inBatch b _) : EReal) * _ = _
  rw [h, chunk_apply X c d j hj, cols_apply]

/-! ## The sums -/

theorem ofPiece_ix (b : Fin 4) (s : Fin 256) (l : Fin 512) : ofPiece (ix3 b s l : S4x256x512.Idx) = (ix4 0 0 s l : S1x1x256x512.Idx) := by
  funext a; match a with | ⟨0, _⟩ => rfl | ⟨1, _⟩ => rfl | ⟨2, _⟩ => rfl | ⟨3, _⟩ => rfl
theorem row_ix {α : Type} (v : S4x256x512.Idx → α) (b : Fin 4) (u w : Fin 1) (s : Fin 256) (l : Fin 512) :
    row b v (ix4 u w s l : S1x1x256x512.Idx) = v (ix3 b s l : S4x256x512.Idx) := by
  unfold row
  refine congrArg v ?_
  funext a; match a with | ⟨0, _⟩ => rfl | ⟨1, _⟩ => rfl | ⟨2, _⟩ => rfl

/-- A round's sum at an index: what arrived and the device's product. -/
theorem sum_apply (v : S4x256x512.Idx → Elt Ideal .f32) (c : Dev nD) (d : Fin 2) (q : Fin 4) (j : ℕ) (hj : j < 8) (b : Fin 4) (s : Fin 256) (l : Fin 512) :
    sumV (row b v) (row b (chunk X c d j)) (cols Y c d q) (ix2 s l : S256x512.Idx)
      = (v (ix3 b s l : S4x256x512.Idx) : EReal) + share X Y c b (rowOf (back d (j + 1) c) s) (colOf d q l) := by
  unfold sumV
  show (shapeCast S256x512 (row b v) shapeCasts_S1x1x256x512_S256x512 (ix2 s l : S256x512.Idx) : EReal) + (prod (F := Ideal) _ _ (ix2 s l : S256x512.Idx) : EReal) = _
  rw [cast_in, row_ix, prod_chunk X Y c d q j hj]

/-- The partial sum of transfer `k`: the products of the sender and of the `k` devices before it, for the rows of the
    device `k + 1` steps back. -/
theorem sent_apply (d : Fin 2) (q : Fin 4) (b : Fin 4) (s : Fin 256) (l : Fin 512) : ∀ (k : ℕ) (hk : k < 7) (c : Dev nD),
    (sent X Y k c d q (ix3 b s l : S4x256x512.Idx) : EReal)
      = ∑ t ∈ Finset.range (k + 1), share X Y (back d t c) b (rowOf (back d (k + 1) c) s) (colOf d q l)
  | 0, _, c => by
    show (firstV (F := Ideal) (row b (chunk X c d 0)) (cols Y c d q) (ofPiece (ix3 b s l : S4x256x512.Idx)) : EReal) = _
    unfold firstV
    rw [ofPiece_ix, cast_out, prod_chunk X Y c d q 0 (by omega), Finset.sum_range_one]
    rfl
  | k + 1, hk, c => by
    show (accV (F := Ideal) (row b (sent X Y k (fromD d c) d q)) (row b (chunk X c d (k + 1))) (cols Y c d q) (ofPiece (ix3 b s l : S4x256x512.Idx)) : EReal) = _
    unfold accV
    rw [ofPiece_ix, cast_out, sum_apply X Y _ c d q (k + 1) (by omega), sent_apply d q b s l k (by omega) (fromD d c),
      Finset.sum_range_succ' _ (k + 1), ← back_succ]
    simp only [← back_succ]
    rfl

/-- The products of the devices in the order of a direction are those of all devices. -/
theorem sum_back (d : Fin 2) (c : Dev nD) (f : Dev nD → EReal) : ∑ t ∈ Finset.range 8, f (back d t c) = ∑ e : Dev nD, f e := by
  rw [Finset.sum_range]
  exact Fintype.sum_bijective (fun t : Fin 8 => back d t.val c) ((Fintype.bijective_iff_injective_and_card _).mpr ⟨back_inj d c, rfl⟩)
    _ _ fun _ => rfl

/-- The result of device `c`: all the devices' products for its rows. -/
theorem outAll_apply (c : Dev nD) (b : Fin 4) (s : Fin 256) (n : Fin 4096) :
    (outAll X Y c (ix3 b s n : S4x256x4096.Idx) : EReal) = ∑ e : Dev nD, share X Y e b (rowOf c s) n := by
  have hn : colOf (colD n.val) (colQ n.val) ⟨n.val % 512, Nat.mod_lt _ (by decide)⟩ = n :=
    Fin.ext (by show 2048 * (n.val / 2048 % 2) + 512 * (n.val / 512 % 4) + n.val % 512 = n.val; omega)
  have hi : colIx (ix3 b s n : S4x256x4096.Idx) = (ix3 0 s ⟨n.val % 512, Nat.mod_lt _ (by decide)⟩ : S1x256x512.Idx) := by
    funext a; match a with | ⟨0, _⟩ => rfl | ⟨1, _⟩ => rfl | ⟨2, _⟩ => rfl
  show (outV (F := Ideal) (row b (sent X Y 6 (fromD (colD n.val) c) (colD n.val) (colQ n.val))) (row b (chunk X c (colD n.val) 7))
    (cols Y c (colD n.val) (colQ n.val)) (colIx (ix3 b s n : S4x256x4096.Idx)) : EReal) = _
  rw [hi]
  unfold outV
  rw [cast_res, sum_apply X Y _ c _ _ 7 (by omega), sent_apply X Y _ _ _ _ _ 6 (by omega), hn, ← back_succ, back_eight,
    ← sum_back (colD n.val) c (fun e => share X Y e b (rowOf c s) n), Finset.sum_range_succ' _ 7]
  simp only [← back_succ]
  rfl

end Cert.KernelIdeal.Ring

end
-- ==== Proof.Bridge.lean ====
/-
  The kernel's result and the reference's. A device holds eight of the heads of `O` and the rows of `Wo`
  that go with them; the products of the devices are the parts of the sum over all the heads.
-/
module

public import proofs.«01_k».proof.Proof.Maths
public import proofs.«01_k».proof.Proof.Call
public import proofs.«01_k».proof.Proof.Gen.ReferenceIdeal.Run
public import Idealize.ShloMosaic.Lib.Layout

@[expose] public section

noncomputable section

namespace Cert.Bridge

open Idealize.ShloMosaic Idealize.ShloMosaic.TcCoe
open Idealize.SL.Sem
open Idealize.ShloMosaic.ValueIdx
open scoped BigOperators
open Cert.KernelIdeal.Ring (XV YV share res rowOf)

/-- The shapes of `O`, of `Wo` and of the result, whole and on a device. -/
abbrev SO : Shape := Cert.ReferenceIdeal.S4x2048x64x64
abbrev SW : Shape := Cert.ReferenceIdeal.S4096x4096
abbrev SR : Shape := Cert.ReferenceIdeal.S4x2048x4096
abbrev SOc : Shape := Cert.KernelIdeal.S4x2048x8x64
abbrev SWc : Shape := Cert.KernelIdeal.S512x4096
abbrev SRc : Shape := Cert.KernelIdeal.S4x256x4096

/-- The eight blocks of `O`, of `Wo` and of the result tile them. -/
theorem tilesO : Layout.Tiles SOc SO 2 8 := by decide
theorem tilesW : Layout.Tiles SWc SW 0 8 := by decide
theorem tilesR : Layout.Tiles SRc SR 1 8 := by decide

/-- The reference's result, from its arguments. -/
def refRes (O : SO.Idx → Elt Ideal .f32) (W : SW.Idx → Elt Ideal .f32) : SR.Idx → Elt Ideal .f32 :=
  Host.dotGeneral (F := Ideal) (φ₁ := .f32) (φ₂ := .f32) Cert.ReferenceIdeal.dot_S4x2048x4096_S4096x4096_S4x2048x4096_2_0_01_1_n_n none
    (shapeCast SR O Cert.ReferenceIdeal.Gen.facts.shapeCasts_S4x2048x64x64_S4x2048x4096) W

/-! ## The reference at an index -/

/-- The place of a column of the reshaped `O` among the heads. -/
theorem cast_heads {α : Type} (O : SO.Idx → α) (h : SO.ShapeCasts SR) (b : Fin 4) (r : Fin 2048) (n : Fin 4096) :
    shapeCast SR O h (ix3 b r n : SR.Idx) = O (ix4 b r ⟨n.val / 64, by omega⟩ ⟨n.val % 64, Nat.mod_lt _ (by decide)⟩ : SO.Idx) :=
  shapeCast_apply O _ _ _ (by
    rw [Shape.rowMajor_val_four, Shape.rowMajor_val_three]
    show ((b.val * 2048 + r.val) * 64 + n.val / 64) * 64 + n.val % 64 = (b.val * 2048 + r.val) * 4096 + n.val
    omega)

/-- The reference's result at an index: the sum over all columns of the reshaped `O`. -/
theorem refRes_apply (O : SO.Idx → Elt Ideal .f32) (W : SW.Idx → Elt Ideal .f32) (b : Fin 4) (r : Fin 2048) (n : Fin 4096) :
    (refRes O W (ix3 b r n : SR.Idx) : EReal) = ∑ k : Fin 4096,
      (O (ix4 b r ⟨k.val / 64, by omega⟩ ⟨k.val % 64, Nat.mod_lt _ (by decide)⟩ : SO.Idx) : EReal) * (W (ix2 k n : SW.Idx) : EReal) := by
  let D := Cert.ReferenceIdeal.dot_S4x2048x4096_S4096x4096_S4x2048x4096_2_0_01_1_n_n
  have hr : D.contr.rank = 1 := rfl
  have hs : D.contr.size ⟨0, by omega⟩ = 4096 := rfl
  unfold refRes
  refine (Ideal.dotGeneral_apply D none _ _ W (ix3 b r n : SR.Idx)).trans ?_
  rw [← Equiv.sum_comp (contrEquiv1 D 4096 hr hs).symm]
  refine Finset.sum_congr rfl fun k _ => ?_
  have hk := contrEquiv1_symm_val D 4096 hr hs k
  have el : D.lhsIdx (ix3 b r n : SR.Idx) ((contrEquiv1 D 4096 hr hs).symm k) = (ix3 b r k : SR.Idx) := by
    funext a; apply Fin.ext
    match a with
    | ⟨0, _⟩ => rfl
    | ⟨1, _⟩ => rfl
    | ⟨2, _⟩ => exact hk
  have er : D.rhsIdx (ix3 b r n : SR.Idx) ((contrEquiv1 D 4096 hr hs).symm k) = (ix2 k n : SW.Idx) := by
    funext a; apply Fin.ext
    match a with
    | ⟨0, _⟩ => exact hk
    | ⟨1, _⟩ => rfl
  rw [el, er, cast_heads]

/-! ## The kernel at an index -/

section
open Cert.KernelIdeal

variable (m : (ℓ : Loc nD τ sig) → Buf (Elt Ideal) ℓ)

/-- A device's operand is its share of `O` reshaped. -/
theorem XV_eq (c : Dev nD) : XV m c = shapeCast S4x2048x512 (m ((c : Thread nD τ).loc main_arg0)) Gen.facts.shapeCasts_S4x2048x8x64_S4x2048x512 := by
  show StableHlo.after Gen.hostOps0 (fun b => m (c, b)) main_v1 = _
  after_results <;> rfl
theorem YV_eq (c : Dev nD) : YV m c = m ((c : Thread nD τ).loc main_arg1) := Gen.V_main_arg1 m c

theorem cast_own {α : Type} (O : SOc.Idx → α) (h : SOc.ShapeCasts S4x2048x512) (b : Fin 4) (r : Fin 2048) (k : Fin 512) :
    shapeCast S4x2048x512 O h (ix3 b r k : S4x2048x512.Idx) = O (ix4 b r ⟨k.val / 64, by omega⟩ ⟨k.val % 64, Nat.mod_lt _ (by decide)⟩ : SOc.Idx) :=
  shapeCast_apply O _ _ _ (by
    rw [Shape.rowMajor_val_four, Shape.rowMajor_val_three]
    show ((b.val * 2048 + r.val) * 8 + k.val / 64) * 64 + k.val % 64 = (b.val * 2048 + r.val) * 512 + k.val
    omega)

variable (O : SO.Idx → Elt Ideal .f32) (W : SW.Idx → Elt Ideal .f32)
variable (hO : ∀ c : Dev nD, m ((c : Thread nD τ).loc main_arg0) = Layout.block SOc SO 2 8 c O tilesO)
variable (hW : ∀ c : Dev nD, m ((c : Thread nD τ).loc main_arg1) = Layout.block SWc SW 0 8 c W tilesW)

include hO hW in
/-- A device's product is its part of the reference's sum. -/
theorem share_apply (e : Dev nD) (b : Fin 4) (r : Fin 2048) (n : Fin 4096) :
    share (XV m) (YV m) e b r n = ∑ k : Fin 512,
      (O (ix4 b r ⟨(finProdFinEquiv (e, k) : Fin (8 * 512)).val / 64, by have := (finProdFinEquiv (e, k) : Fin (8 * 512)).isLt; omega⟩
          ⟨(finProdFinEquiv (e, k) : Fin (8 * 512)).val % 64, Nat.mod_lt _ (by decide)⟩ : SO.Idx) : EReal)
        * (W (ix2 (finProdFinEquiv (e, k) : Fin (8 * 512)) n : SW.Idx) : EReal) := by
  unfold share
  refine Finset.sum_congr rfl fun k _ => ?_
  have hv : (finProdFinEquiv (e, k) : Fin (8 * 512)).val = k.val + 512 * e.val := rfl
  rw [XV_eq, YV_eq, hO, hW]
  rw [cast_own, Layout.block_apply, Layout.block_apply]
  congr 1
  · refine congrArg O (funext fun a => Fin.ext ?_)
    match a with
    | ⟨0, _⟩ => rfl
    | ⟨1, _⟩ => rfl
    | ⟨2, _⟩ => show e.val * 8 + k.val / 64 = (k.val + 512 * e.val) / 64; omega
    | ⟨3, _⟩ => show k.val % 64 = (k.val + 512 * e.val) % 64; omega
  · refine congrArg W (funext fun a => Fin.ext ?_)
    match a with
    | ⟨0, _⟩ => show e.val * 512 + k.val = k.val + 512 * e.val; omega
    | ⟨1, _⟩ => rfl

include hO hW in
/-- Each device's result is its block of the reference's. -/
theorem res_eq (c : Dev nD) : res m c = Layout.block SRc SR 1 8 c (refRes O W) tilesR := by
  funext i
  obtain ⟨b, s, n, rfl⟩ : ∃ (b : Fin 4) (s : Fin 256) (n : Fin 4096), i = (ix3 b s n : SRc.Idx) := ⟨i 0, i 1, i 2, eq_ix3 i⟩
  rw [Layout.block_apply]
  have hi : tilesR.idx c (ix3 b s n : SRc.Idx) = (ix3 b (rowOf c s) n : SR.Idx) := by
    funext a; apply Fin.ext
    match a with
    | ⟨0, _⟩ => rfl
    | ⟨1, _⟩ => show c.val * 256 + s.val = 256 * c.val + s.val; omega
    | ⟨2, _⟩ => rfl
  rw [hi]
  refine Eq.trans (b := ∑ e : Dev nD, share (XV m) (YV m) e b (rowOf c s) n) (Cert.KernelIdeal.Ring.outAll_apply (XV m) (YV m) c b s n) ?_
  rw [Finset.sum_congr rfl fun e _ => share_apply m O W hO hW e b (rowOf c s) n]
  refine Eq.trans ?_ (refRes_apply O W b (rowOf c s) n).symm
  refine Eq.trans ?_ (Equiv.sum_comp (finProdFinEquiv (m := 8) (n := 512)) _)
  rw [Fintype.sum_prod_type]

end

end Cert.Bridge

end
-- ==== Proof.Same.lean ====
/-
  The two kernel programs, the one read on words and the one read on exact numbers, are printed with the same
  text: their body tables and their @main are equal.
-/
module

public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F]

/-- The bodies, -/
theorem body_eq : @Cert.Kernel.cc0_body F _ Cert.Kernel.Gen.facts = @Cert.KernelIdeal.cc0_body F _ Cert.KernelIdeal.Gen.facts := rfl

/-- the kernels' table, -/
theorem defs₀_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun ℓ => ?_)
  match ℓ with
  | ⟨0, _⟩ => exact funext fun _ => rfl
  | ⟨_ + 1, h⟩ => exact absurd h (Nat.not_lt.2 (Nat.le_add_left _ _))

/-- and the table with the call's pipeline are equal. -/
theorem defs_eq : @Cert.Kernel.defs F _ Cert.Kernel.Gen.facts = @Cert.KernelIdeal.defs F _ Cert.KernelIdeal.Gen.facts :=
  congrArg (Pipeline.defs (Cert.KernelIdeal.pcfgs (F := F))) defs₀_eq

/-- @main is equal too. -/
theorem main_eq : (Cert.Kernel.main (F := F)) = Cert.KernelIdeal.main (F := F) := rfl

end Cert.Same

end
-- ==== Proof.lean ====
/-
  The certificate: the kernel's run read at both kinds of numbers, the reference's run, and the equation between their results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Bridge
public import proofs.«01_k».proof.Proof.Same

@[expose] public section

noncomputable section

namespace Cert.Proof

open Idealize.ShloMosaic Idealize.SL.Sem
open Cert.KernelIdeal.Ring (run_main)

/-- The kernel's run, its values dropped, over any float values. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread _ _).loc Cert.KernelIdeal.main_arg0)
          ∧ r.2.mem ((c.tc : Thread Cert.KernelIdeal.nD Cert.KernelIdeal.τ).loc Cert.KernelIdeal.main_arg1) = m ((c.tc : Thread _ _).loc Cert.KernelIdeal.main_arg1))
        ∧ r.2.sem = fun _ => 0 :=
  (θ_run Cert.KernelIdeal.defs _ _).mono (fun _ h => ⟨fun c => (h.1 c).2, h.2⟩) (run_main m ρ)

/-- The kernel, on words, ends from any memory; it keeps its arguments and leaves every counter at zero. -/
theorem frame_kernel : Cert.quiescent_Kernel := fun m ρ _ => by
  have h := frame (F := Bits) m ρ
  rw [← Cert.Same.defs_eq] at h
  exact h

/-- The same on exact numbers. -/
theorem frame_kernelIdeal : Cert.quiescent_KernelIdeal := fun m ρ _ => frame (F := Ideal) m ρ

/-- The reference ends and keeps its arguments; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In exact arithmetic every device of the kernel ends with its block of the reference's result. -/
theorem algebraic : Cert.algebraic_KernelIdeal_ReferenceIdeal := fun m ρ m' ρ' _ hag =>
  ⟨Cert.Bridge.refRes (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans
      (Cert.Bridge.res_eq m _ _ (fun e => (hag e).1) (fun e => (hag e).2) c), (h.1 c).2⟩) (run_main (F := Ideal) m ρ),
    (θ_run Cert.ReferenceIdeal.defs _ _).mono (fun _ h => h 0) (Cert.ReferenceIdeal.Value.run (F := Ideal) m' ρ')⟩

/-- All the claims. -/
theorem claim : Cert.Claim :=
  ⟨Cert.Kernel.Gen.facts, Cert.KernelIdeal.Gen.facts, Cert.ReferenceIdeal.Gen.facts, frame_kernel, frame_kernelIdeal, frame_reference, trivial, algebraic⟩

end Cert.Proof

end
